-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)) (v2 : (c : Dev Cert.Kernel3Ideal.nD) → Buf (Elt Ideal) ((c.tc : Thread Cert.Kernel3Ideal.nD Cert.Kernel3Ideal.τ).loc Cert.Kernel3Ideal.main_v15_2)) (v3 : (c : Dev Cert.Kernel3Ideal.nD) → Buf (Elt Ideal) ((c.tc : Thread Cert.Kernel3Ideal.nD Cert.Kernel3Ideal.τ).loc Cert.Kernel3Ideal.main_v15_3)) (v4 : (c : Dev Cert.Kernel3Ideal.nD) → Buf (Elt Ideal) ((c.tc : Thread Cert.Kernel3Ideal.nD Cert.Kernel3Ideal.τ).loc Cert.Kernel3Ideal.main_v15_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_v15_2) = v2 c
          ∧ r.2.mem ((c.tc : Thread Cert.Kernel3Ideal.nD Cert.Kernel3Ideal.τ).loc Cert.Kernel3Ideal.main_v15_3) = v3 c
          ∧ r.2.mem ((c.tc : Thread Cert.Kernel3Ideal.nD Cert.Kernel3Ideal.τ).loc Cert.Kernel3Ideal.main_v15_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v34) = v1 c
          ∧ r.2.mem ((c.tc : Thread Cert.Reference3Ideal.nD Cert.Reference3Ideal.τ).loc Cert.Reference3Ideal.main_v36) = v2 c
          ∧ r.2.mem ((c.tc : Thread Cert.Reference3Ideal.nD Cert.Reference3Ideal.τ).loc Cert.Reference3Ideal.main_v38) = v3 c
          ∧ r.2.mem ((c.tc : Thread Cert.Reference3Ideal.nD Cert.Reference3Ideal.τ).loc Cert.Reference3Ideal.main_v39) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S4x8192x8x128 : Shape := ⟨4, ![4, 8192, 8, 128]⟩
abbrev S4x8192x8x64 : Shape := ⟨4, ![4, 8192, 8, 64]⟩
abbrev S4x8192x64 : Shape := ⟨3, ![4, 8192, 64]⟩
abbrev S_ : Shape := ⟨0, ![]⟩

class Facts : Prop where
  bcast_S_S4x8192x8x128 : S_.BroadcastsInDim S4x8192x8x128 (![] : Fin 0 → Fin S4x8192x8x128.rank)
  reducesTo_S4x8192x8x128_S_d0_1_2_3 : S4x8192x8x128.ReducesTo [0, 1, 2, 3] S_
  h_S_ : 0 < S_.numel
  bcast_S_S4x8192x8x64 : S_.BroadcastsInDim S4x8192x8x64 (![] : Fin 0 → Fin S4x8192x8x64.rank)
  reducesTo_S4x8192x8x64_S_d0_1_2_3 : S4x8192x8x64.ReducesTo [0, 1, 2, 3] S_
  bcast_S_S4x8192x64 : S_.BroadcastsInDim S4x8192x64 (![] : Fin 0 → Fin S4x8192x64.rank)
  reducesTo_S4x8192x64_S_d0_1_2 : S4x8192x64.ReducesTo [0, 1, 2] S_

variable [Facts]

def fn_part1 {F : FTy → Type} [FloatOps F] (main_v13 : IVec S_ 1) (main_v16 : IVec S4x8192x64 1) : IVec S_ 1 :=
  let main_c_5 : IVec S_ 1 := constantI S_ 1 1#1
  let main_v17 : IVec S_ 1 := (fun x v => Host.reduce IntOp.andi x v reducesTo_S4x8192x64_S_d0_1_2 h_S_) main_v16 main_c_5
  let main_v18 : IVec S_ 1 := andi main_v13 main_v17
  main_v18

def fn {F : FTy → Type} [FloatOps F] (main_arg0 : FVec F S4x8192x8x128 .f32) (main_arg1 : FVec F S4x8192x8x64 .f32) (main_arg2 : FVec F S4x8192x8x128 .f32) (main_arg3 : FVec F S4x8192x64 .f32) (main_arg4 : FVec F S4x8192x8x128 .f32) : IVec S_ 1 :=
  let main_v0 : FVec F S4x8192x8x128 .f32 := Host.absf main_arg0
  let main_cst : FVec F S_ .f32 := constant S_ .f32 0x7F800000#32
  let main_v1 : FVec F S4x8192x8x128 .f32 := broadcastInDim S4x8192x8x128 ![] bcast_S_S4x8192x8x128 main_cst
  let main_v2 : IVec S4x8192x8x128 1 := cmpf .olt main_v0 main_v1
  let main_c : IVec S_ 1 := constantI S_ 1 1#1
  let main_v3 : IVec S_ 1 := (fun x v => Host.reduce IntOp.andi x v reducesTo_S4x8192x8x128_S_d0_1_2_3 h_S_) main_v2 main_c
  let main_v4 : FVec F S4x8192x8x64 .f32 := Host.absf main_arg1
  let main_cst_0 : FVec F S_ .f32 := constant S_ .f32 0x7F800000#32
  let main_v5 : FVec F S4x8192x8x64 .f32 := broadcastInDim S4x8192x8x64 ![] bcast_S_S4x8192x8x64 main_cst_0
  let main_v6 : IVec S4x8192x8x64 1 := cmpf .olt main_v4 main_v5
  let main_c_1 : IVec S_ 1 := constantI S_ 1 1#1
  let main_v7 : IVec S_ 1 := (fun x v => Host.reduce IntOp.andi x v reducesTo_S4x8192x8x64_S_d0_1_2_3 h_S_) main_v6 main_c_1
  let main_v8 : IVec S_ 1 := andi main_v3 main_v7
  let main_v9 : FVec F S4x8192x8x128 .f32 := Host.absf main_arg2
  let main_cst_2 : FVec F S_ .f32 := constant S_ .f32 0x7F800000#32
  let main_v10 : FVec F S4x8192x8x128 .f32 := broadcastInDim S4x8192x8x128 ![] bcast_S_S4x8192x8x128 main_cst_2
  let main_v11 : IVec S4x8192x8x128 1 := cmpf .olt main_v9 main_v10
  let main_c_3 : IVec S_ 1 := constantI S_ 1 1#1
  let main_v12 : IVec S_ 1 := (fun x v => Host.reduce IntOp.andi x v reducesTo_S4x8192x8x128_S_d0_1_2_3 h_S_) main_v11 main_c_3
  let main_v13 : IVec S_ 1 := andi main_v8 main_v12
  let main_v14 : FVec F S4x8192x64 .f32 := Host.absf main_arg3
  let main_cst_4 : FVec F S_ .f32 := constant S_ .f32 0x7F800000#32
  let main_v15 : FVec F S4x8192x64 .f32 := broadcastInDim S4x8192x64 ![] bcast_S_S4x8192x64 main_cst_4
  let main_v16 : IVec S4x8192x64 1 := cmpf .olt main_v14 main_v15
  fn_part1 (F := F) main_v13 main_v16
-- ==== Kernel.lean ====
abbrev S4x8192x8x128 : Shape := ⟨4, ![4, 8192, 8, 128]⟩
abbrev S4x8192x8x64 : Shape := ⟨4, ![4, 8192, 8, 64]⟩
abbrev S4x8192x64 : Shape := ⟨3, ![4, 8192, 64]⟩
abbrev S_ : Shape := ⟨0, ![]⟩
abbrev S4x8192x8x192 : Shape := ⟨4, ![4, 8192, 8, 192]⟩
abbrev S4x8192x8x256 : Shape := ⟨4, ![4, 8192, 8, 256]⟩
abbrev S4x8192x2048 : Shape := ⟨3, ![4, 8192, 2048]⟩
abbrev S4x2048x8192 : Shape := ⟨3, ![4, 2048, 8192]⟩
abbrev S4x8192x1x64 : Shape := ⟨4, ![4, 8192, 1, 64]⟩
abbrev S4x8192x8x16 : Shape := ⟨4, ![4, 8192, 8, 16]⟩
abbrev S4x8192x8x144 : Shape := ⟨4, ![4, 8192, 8, 144]⟩
abbrev S4x8x1024x1152 : Shape := ⟨4, ![4, 8, 1024, 1152]⟩
abbrev S4x8x1152x1024 : Shape := ⟨4, ![4, 8, 1152, 1024]⟩
abbrev S4x1024x8192 : Shape := ⟨3, ![4, 1024, 8192]⟩
abbrev S1x256x1024 : Shape := ⟨3, ![1, 256, 1024]⟩
abbrev S1x8192x256 : Shape := ⟨3, ![1, 8192, 256]⟩
abbrev S1x8x144x1024 : Shape := ⟨4, ![1, 8, 144, 1024]⟩
abbrev S1x128x1024 : Shape := ⟨3, ![1, 128, 1024]⟩
abbrev S1024x1024 : Shape := ⟨2, ![1024, 1024]⟩
abbrev S1x1024x256 : Shape := ⟨3, ![1, 1024, 256]⟩
abbrev S1024x256 : Shape := ⟨2, ![1024, 256]⟩
abbrev S256x1024 : Shape := ⟨2, ![256, 1024]⟩
abbrev S1x1024 : Shape := ⟨2, ![1, 1024]⟩
abbrev S144x1024 : Shape := ⟨2, ![144, 1024]⟩
abbrev S1024 : Shape := ⟨1, ![1024]⟩
abbrev S1x1x144x1024 : Shape := ⟨4, ![1, 1, 144, 1024]⟩
abbrev S128x1024 : Shape := ⟨2, ![128, 1024]⟩

abbrev nBuf : Space → Nat
  | .hbm => 34
  | .vmem => 10
  | .smem => 0
  | _ => 0

abbrev bufTy : (tb : Table) → Fin (tcTables nBuf tb) → BufTy
  | .hbm, ⟨0, _⟩ => ⟨S4x8192x8x128, .f32⟩
  | .hbm, ⟨1, _⟩ => ⟨S4x8192x8x64, .f32⟩
  | .hbm, ⟨2, _⟩ => ⟨S4x8192x8x128, .f32⟩
  | .hbm, ⟨3, _⟩ => ⟨S4x8192x64, .f32⟩
  | .hbm, ⟨4, _⟩ => ⟨S4x8192x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .bf16⟩
  | .hbm, ⟨13, _⟩ => ⟨S4x8192x8x64, .bf16⟩
  | .hbm, ⟨14, _⟩ => ⟨S4x8192x8x192, .f32⟩
  | .hbm, ⟨15, _⟩ => ⟨S4x8192x8x192, .f32⟩
  | .hbm, ⟨16, _⟩ => ⟨S4x8192x8x192, .f32⟩
  | .hbm, ⟨17, _⟩ => ⟨S4x8192x8x192, .bf16⟩
  | .hbm, ⟨18, _⟩ => ⟨S4x8192x8x256, .bf16⟩
  | .hbm, ⟨19, _⟩ => ⟨S4x8192x2048, .bf16⟩
  | .hbm, ⟨20, _⟩ => ⟨S4x2048x8192, .bf16⟩
  | .hbm, ⟨21, _⟩ => ⟨S4x8192x1x64, .f32⟩
  | .hbm, ⟨22, _⟩ => ⟨S4x8192x8x64, .f32⟩
  | .hbm, ⟨23, _⟩ => ⟨S4x8192x8x128, .bf16⟩
  | .hbm, ⟨24, _⟩ => ⟨S4x8192x8x64, .bf16⟩
  | .hbm, ⟨25, _⟩ => ⟨S4x8192x8x256, .bf16⟩
  | .hbm, ⟨26, _⟩ => ⟨S4x8192x2048, .bf16⟩
  | .hbm, ⟨27, _⟩ => ⟨S_, .bf16⟩
  | .hbm, ⟨28, _⟩ => ⟨S4x8192x8x16, .bf16⟩
  | .hbm, ⟨29, _⟩ => ⟨S4x8192x8x128, .bf16⟩
  | .hbm, ⟨30, _⟩ => ⟨S4x8192x8x144, .bf16⟩
  | .hbm, ⟨31, _⟩ => ⟨S4x8x1024x1152, .bf16⟩
  | .hbm, ⟨32, _⟩ => ⟨S4x8x1152x1024, .bf16⟩
  | .hbm, ⟨33, _⟩ => ⟨S4x1024x8192, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8x144x1024, .bf16⟩
  | .local _ .vmem, ⟨5, _⟩ => ⟨S1x8x144x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1024x1024, .f32⟩
  | .local _ .vmem, ⟨9, _⟩ => ⟨S1024x1024, .f32⟩
  | _, _ => ⟨S4x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_mult1 : BitVec 32 :=
  let c0_i32 : BitVec 32 := 0#32
  c0_i32
@[reducible] def k0_t1_loop (i : grid0.Coords) : Scf.Loop 32 :=
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c2_i32 : BitVec 32 := 2#32
  let c0_i32_10 : BitVec 32 := 0#32
  let v18 : BitVec 1 := Scalar.cmpi .sgt c2_i32 c0_i32_10
  let v19 : BitVec 32 := Scalar.extui v18
  let c0_i32_11 : BitVec 32 := 0#32
  let v20 : BitVec 1 := Scalar.cmpi .slt c2_i32 c0_i32_11
  let v21 : BitVec 32 := Scalar.extui v20
  let v22 : BitVec 32 := Scalar.subi v19 v21
  let v23 : BitVec 1 := Scalar.cmpi .ne v17 v22
  let v24 : BitVec 32 := Scalar.remsi arg2 c2_i32
  let c0_i32_12 : BitVec 32 := 0#32
  let v25 : BitVec 1 := Scalar.cmpi .ne v24 c0_i32_12
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_15 : BitVec 32 := 1#32
  ⟨c0_i32_13, v33, c1_i32_15⟩
def k0_mult2 (i : grid0.Coords) (k0_t1 : Fin (k0_t1_loop i).trips) : BitVec 32 :=
  let c2_i32_29 : BitVec 32 := 2#32
  let c0_i32_13 : BitVec 32 := 0#32
  let c1_i32_15 : BitVec 32 := 1#32
  let arg9 : BitVec 32 := Scf.iv c0_i32_13 c1_i32_15 k0_t1
  let v60 : BitVec 32 := Scalar.muli c2_i32_29 arg9
  let c1_i32_30 : BitVec 32 := 1#32
  let v61 : BitVec 32 := Scalar.addi v60 c1_i32_30
  let c1024_i32 : BitVec 32 := 1024#32
  let v62 : BitVec 32 := Scalar.muli v61 c1024_i32
  v62
def k0_off1 (i : grid0.Coords) (k0_t1 : Fin (k0_t1_loop i).trips) (c1_i32_30 : BitVec 32) : Fin 3 → Nat :=
  let c0_31 : Index := 0#32
  let c2_i32_29 : BitVec 32 := 2#32
  let c0_i32_13 : BitVec 32 := 0#32
  let c1_i32_15 : BitVec 32 := 1#32
  let arg9 : BitVec 32 := Scf.iv c0_i32_13 c1_i32_15 k0_t1
  let v60 : BitVec 32 := Scalar.muli c2_i32_29 arg9
  let v61 : BitVec 32 := Scalar.addi v60 c1_i32_30
  let c1024_i32 : BitVec 32 := 1024#32
  let v62 : BitVec 32 := Scalar.muli v61 c1024_i32
  let v63 : BitVec 32 := v62
  let v64 : Index := Scalar.indexCast v63
  let c0_32 : Index := 0#32
  ![0, v64.toNat, 0]
def k0_off2 (i : grid0.Coords) (k0_t1 : Fin (k0_t1_loop i).trips) : Fin 4 → Nat :=
  let c0_42 : Index := 0#32
  let c2_i32_29 : BitVec 32 := 2#32
  let c0_i32_13 : BitVec 32 := 0#32
  let c1_i32_15 : BitVec 32 := 1#32
  let arg9 : BitVec 32 := Scf.iv c0_i32_13 c1_i32_15 k0_t1
  let v60 : BitVec 32 := Scalar.muli c2_i32_29 arg9
  let v85 : Index := Scalar.indexCast v60
  let c0_43 : Index := 0#32
  let c0_44 : Index := 0#32
  ![0, v85.toNat, 0, 0]
def k0_mult3 (i : grid0.Coords) (k0_t1 : Fin (k0_t1_loop i).trips) : BitVec 32 :=
  let c2_i32_29 : BitVec 32 := 2#32
  let c0_i32_13 : BitVec 32 := 0#32
  let c1_i32_15 : BitVec 32 := 1#32
  let arg9 : BitVec 32 := Scf.iv c0_i32_13 c1_i32_15 k0_t1
  let v60 : BitVec 32 := Scalar.muli c2_i32_29 arg9
  let c2_i32_46 : BitVec 32 := 2#32
  let v90 : BitVec 32 := Scalar.addi v60 c2_i32_46
  let c1024_i32_47 : BitVec 32 := 1024#32
  let v91 : BitVec 32 := Scalar.muli v90 c1024_i32_47
  v91
def k0_off3 (i : grid0.Coords) (k0_t1 : Fin (k0_t1_loop i).trips) : Fin 4 → Nat :=
  let c0_60 : Index := 0#32
  let c2_i32_29 : BitVec 32 := 2#32
  let c0_i32_13 : BitVec 32 := 0#32
  let c1_i32_15 : BitVec 32 := 1#32
  let arg9 : BitVec 32 := Scf.iv c0_i32_13 c1_i32_15 k0_t1
  let v60 : BitVec 32 := Scalar.muli c2_i32_29 arg9
  let c1_i32_56 : BitVec 32 := 1#32
  let v102 : BitVec 32 := Scalar.addi v60 c1_i32_56
  let v115 : Index := Scalar.indexCast v102
  let c0_61 : Index := 0#32
  let c0_62 : Index := 0#32
  ![0, v115.toNat, 0, 0]
@[reducible] def k0_t2_loop (i : grid0.Coords) : Scf.Loop 32 :=
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c2_i32 : BitVec 32 := 2#32
  let c0_i32_10 : BitVec 32 := 0#32
  let v18 : BitVec 1 := Scalar.cmpi .sgt c2_i32 c0_i32_10
  let v19 : BitVec 32 := Scalar.extui v18
  let c0_i32_11 : BitVec 32 := 0#32
  let v20 : BitVec 1 := Scalar.cmpi .slt c2_i32 c0_i32_11
  let v21 : BitVec 32 := Scalar.extui v20
  let v22 : BitVec 32 := Scalar.subi v19 v21
  let v23 : BitVec 1 := Scalar.cmpi .ne v17 v22
  let v24 : BitVec 32 := Scalar.remsi arg2 c2_i32
  let c0_i32_12 : BitVec 32 := 0#32
  let v25 : BitVec 1 := Scalar.cmpi .ne v24 c0_i32_12
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let v30 : BitVec 32 := Scalar.addi c0_i32_13 v29
  let c1_i32_16 : BitVec 32 := 1#32
  ⟨v33, v30, c1_i32_16⟩
def k0_mult4 (i : grid0.Coords) (k0_t2 : Fin (k0_t2_loop i).trips) : BitVec 32 :=
  let c2_i32_29 : BitVec 32 := 2#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c2_i32 : BitVec 32 := 2#32
  let c0_i32_10 : BitVec 32 := 0#32
  let v18 : BitVec 1 := Scalar.cmpi .sgt c2_i32 c0_i32_10
  let v19 : BitVec 32 := Scalar.extui v18
  let c0_i32_11 : BitVec 32 := 0#32
  let v20 : BitVec 1 := Scalar.cmpi .slt c2_i32 c0_i32_11
  let v21 : BitVec 32 := Scalar.extui v20
  let v22 : BitVec 32 := Scalar.subi v19 v21
  let v23 : BitVec 1 := Scalar.cmpi .ne v17 v22
  let v24 : BitVec 32 := Scalar.remsi arg2 c2_i32
  let c0_i32_12 : BitVec 32 := 0#32
  let v25 : BitVec 1 := Scalar.cmpi .ne v24 c0_i32_12
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v60 : BitVec 32 := Scalar.muli c2_i32_29 arg9
  let c1_i32_30 : BitVec 32 := 1#32
  let v61 : BitVec 32 := Scalar.addi v60 c1_i32_30
  let c1024_i32 : BitVec 32 := 1024#32
  let v62 : BitVec 32 := Scalar.muli v61 c1024_i32
  v62
def k0_off4 (i : grid0.Coords) (k0_t2 : Fin (k0_t2_loop i).trips) (c1_i32_30 : BitVec 32) : Fin 3 → Nat :=
  let c0_31 : Index := 0#32
  let c2_i32_29 : BitVec 32 := 2#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c2_i32 : BitVec 32 := 2#32
  let c0_i32_10 : BitVec 32 := 0#32
  let v18 : BitVec 1 := Scalar.cmpi .sgt c2_i32 c0_i32_10
  let v19 : BitVec 32 := Scalar.extui v18
  let c0_i32_11 : BitVec 32 := 0#32
  let v20 : BitVec 1 := Scalar.cmpi .slt c2_i32 c0_i32_11
  let v21 : BitVec 32 := Scalar.extui v20
  let v22 : BitVec 32 := Scalar.subi v19 v21
  let v23 : BitVec 1 := Scalar.cmpi .ne v17 v22
  let v24 : BitVec 32 := Scalar.remsi arg2 c2_i32
  let c0_i32_12 : BitVec 32 := 0#32
  let v25 : BitVec 1 := Scalar.cmpi .ne v24 c0_i32_12
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v60 : BitVec 32 := Scalar.muli c2_i32_29 arg9
  let v61 : BitVec 32 := Scalar.addi v60 c1_i32_30
  let c1024_i32 : BitVec 32 := 1024#32
  let v62 : BitVec 32 := Scalar.muli v61 c1024_i32
  let v63 : BitVec 32 := v62
  let v64 : Index := Scalar.indexCast v63
  let c0_32 : Index := 0#32
  ![0, v64.toNat, 0]
def k0_off5 (i : grid0.Coords) (k0_t2 : Fin (k0_t2_loop i).trips) : Fin 4 → Nat :=
  let c0_42 : Index := 0#32
  let c2_i32_29 : BitVec 32 := 2#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c2_i32 : BitVec 32 := 2#32
  let c0_i32_10 : BitVec 32 := 0#32
  let v18 : BitVec 1 := Scalar.cmpi .sgt c2_i32 c0_i32_10
  let v19 : BitVec 32 := Scalar.extui v18
  let c0_i32_11 : BitVec 32 := 0#32
  let v20 : BitVec 1 := Scalar.cmpi .slt c2_i32 c0_i32_11
  let v21 : BitVec 32 := Scalar.extui v20
  let v22 : BitVec 32 := Scalar.subi v19 v21
  let v23 : BitVec 1 := Scalar.cmpi .ne v17 v22
  let v24 : BitVec 32 := Scalar.remsi arg2 c2_i32
  let c0_i32_12 : BitVec 32 := 0#32
  let v25 : BitVec 1 := Scalar.cmpi .ne v24 c0_i32_12
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v60 : BitVec 32 := Scalar.muli c2_i32_29 arg9
  let v85 : Index := Scalar.indexCast v60
  let c0_43 : Index := 0#32
  let c0_44 : Index := 0#32
  ![0, v85.toNat, 0, 0]
def k0_mult5 (i : grid0.Coords) (k0_t2 : Fin (k0_t2_loop i).trips) : BitVec 32 :=
  let c2_i32_29 : BitVec 32 := 2#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c2_i32 : BitVec 32 := 2#32
  let c0_i32_10 : BitVec 32 := 0#32
  let v18 : BitVec 1 := Scalar.cmpi .sgt c2_i32 c0_i32_10
  let v19 : BitVec 32 := Scalar.extui v18
  let c0_i32_11 : BitVec 32 := 0#32
  let v20 : BitVec 1 := Scalar.cmpi .slt c2_i32 c0_i32_11
  let v21 : BitVec 32 := Scalar.extui v20
  let v22 : BitVec 32 := Scalar.subi v19 v21
  let v23 : BitVec 1 := Scalar.cmpi .ne v17 v22
  let v24 : BitVec 32 := Scalar.remsi arg2 c2_i32
  let c0_i32_12 : BitVec 32 := 0#32
  let v25 : BitVec 1 := Scalar.cmpi .ne v24 c0_i32_12
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v60 : BitVec 32 := Scalar.muli c2_i32_29 arg9
  let c2_i32_46 : BitVec 32 := 2#32
  let v90 : BitVec 32 := Scalar.addi v60 c2_i32_46
  let c1024_i32_47 : BitVec 32 := 1024#32
  let v91 : BitVec 32 := Scalar.muli v90 c1024_i32_47
  v91
def k0_off6 (i : grid0.Coords) (k0_t2 : Fin (k0_t2_loop i).trips) : Fin 4 → Nat :=
  let c0_60 : Index := 0#32
  let c2_i32_29 : BitVec 32 := 2#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c2_i32 : BitVec 32 := 2#32
  let c0_i32_10 : BitVec 32 := 0#32
  let v18 : BitVec 1 := Scalar.cmpi .sgt c2_i32 c0_i32_10
  let v19 : BitVec 32 := Scalar.extui v18
  let c0_i32_11 : BitVec 32 := 0#32
  let v20 : BitVec 1 := Scalar.cmpi .slt c2_i32 c0_i32_11
  let v21 : BitVec 32 := Scalar.extui v20
  let v22 : BitVec 32 := Scalar.subi v19 v21
  let v23 : BitVec 1 := Scalar.cmpi .ne v17 v22
  let v24 : BitVec 32 := Scalar.remsi arg2 c2_i32
  let c0_i32_12 : BitVec 32 := 0#32
  let v25 : BitVec 1 := Scalar.cmpi .ne v24 c0_i32_12
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v60 : BitVec 32 := Scalar.muli c2_i32_29 arg9
  let c1_i32_56 : BitVec 32 := 1#32
  let v102 : BitVec 32 := Scalar.addi v60 c1_i32_56
  let v115 : Index := Scalar.indexCast v102
  let c0_61 : Index := 0#32
  let c0_62 : Index := 0#32
  ![0, v115.toNat, 0, 0]
def k0_cond1 (i : grid0.Coords) : BitVec 1 :=
  let arg2 : BitVec 32 := BitVec.ofNat 32 (i 2).val
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi arg2 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c1_i32_23 : BitVec 32 := 1#32
  let v46 : BitVec 1 := Scalar.cmpi .eq v45 c1_i32_23
  let v47 : BitVec 32 := Scalar.extui v46
  let c0_i32_24 : BitVec 32 := 0#32
  let v48 : BitVec 1 := Scalar.cmpi .ne v47 c0_i32_24
  v48

def k0_mult6 (i : grid0.Coords) : BitVec 32 :=
  let arg2 : BitVec 32 := BitVec.ofNat 32 (i 2).val
  let c1024_i32 : BitVec 32 := 1024#32
  let v60 : BitVec 32 := Scalar.muli arg2 c1024_i32
  v60
def k0_off7 (i : grid0.Coords) : Fin 3 → Nat :=
  let c0_29 : Index := 0#32
  let arg2 : BitVec 32 := BitVec.ofNat 32 (i 2).val
  let c1024_i32 : BitVec 32 := 1024#32
  let v60 : BitVec 32 := Scalar.muli arg2 c1024_i32
  let v61 : BitVec 32 := v60
  let v62 : Index := Scalar.indexCast v61
  let c0_30 : Index := 0#32
  ![0, v62.toNat, 0]
def k0_off8 (i : grid0.Coords) : Fin 4 → Nat :=
  let c0_41 : Index := 0#32
  let arg2 : BitVec 32 := BitVec.ofNat 32 (i 2).val
  let c1_i32_37 : BitVec 32 := 1#32
  let v71 : BitVec 32 := Scalar.subi arg2 c1_i32_37
  let v84 : Index := Scalar.indexCast v71
  let c0_42 : Index := 0#32
  let c0_43 : Index := 0#32
  ![0, v84.toNat, 0, 0]
def k0_off9 (i : grid0.Coords) : Fin 4 → Nat :=
  let c0_49 : Index := 0#32
  let arg2 : BitVec 32 := BitVec.ofNat 32 (i 2).val
  let v106 : Index := Scalar.indexCast arg2
  let c0_50 : Index := 0#32
  let c0_51 : Index := 0#32
  ![0, v106.toNat, 0, 0]
def k0_off10 (i : grid0.Coords) : Fin 4 → Nat :=
  let c0_33 : Index := 0#32
  let arg2 : BitVec 32 := BitVec.ofNat 32 (i 2).val
  let v77 : Index := Scalar.indexCast arg2
  let c0_34 : Index := 0#32
  let c0_35 : Index := 0#32
  ![0, v77.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x144x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x8192x8x128 : Shape := ⟨4, ![4, 8192, 8, 128]⟩
abbrev S4x8192x8x64 : Shape := ⟨4, ![4, 8192, 8, 64]⟩
abbrev S4x8192x64 : Shape := ⟨3, ![4, 8192, 64]⟩
abbrev S_ : Shape := ⟨0, ![]⟩
abbrev S4x8x8192x8192 : Shape := ⟨4, ![4, 8, 8192, 8192]⟩
abbrev S4x8192x8192x8 : Shape := ⟨4, ![4, 8192, 8192, 8]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8x8192 : Shape := ⟨3, ![4, 8, 8192]⟩
abbrev S4x8x8192x1 : Shape := ⟨4, ![4, 8, 8192, 1]⟩
abbrev S4x8x128x8192 : Shape := ⟨4, ![4, 8, 128, 8192]⟩
abbrev S4x8192x1024 : Shape := ⟨3, ![4, 8192, 1024]⟩
abbrev S4x1024x8192 : Shape := ⟨3, ![4, 1024, 8192]⟩

abbrev nBuf : Space → Nat
  | .hbm => 45
  | .vmem => 0
  | .smem => 0
  | _ => 0

abbrev bufTy : (tb : Table) → Fin (tcTables nBuf tb) → BufTy
  | .hbm, ⟨0, _⟩ => ⟨S4x8192x8x128, .f32⟩
  | .hbm, ⟨1, _⟩ => ⟨S4x8192x8x64, .f32⟩
  | .hbm, ⟨2, _⟩ => ⟨S4x8192x8x128, .f32⟩
  | .hbm, ⟨3, _⟩ => ⟨S4x8192x64, .f32⟩
  | .hbm, ⟨4, _⟩ => ⟨S4x8192x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x8x8192x8192, .f32⟩
  | .hbm, ⟨10, _⟩ => ⟨S4x8192x8192x8, .f32⟩
  | .hbm, ⟨11, _⟩ => ⟨S4x8x8192x8192, .f32⟩
  | .hbm, ⟨12, _⟩ => ⟨S4x8x8192x8192, .f32⟩
  | .hbm, ⟨13, _⟩ => ⟨S4x8x8192x8192, .f32⟩
  | .hbm, ⟨14, _⟩ => ⟨S4x8x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S4x8x8192x8192, .i1⟩
  | .hbm, ⟨24, _⟩ => ⟨S4x8x8192x8192, .f32⟩
  | .hbm, ⟨25, _⟩ => ⟨S4x8x8192x8192, .f32⟩
  | .hbm, ⟨26, _⟩ => ⟨S_, .f32⟩
  | .hbm, ⟨27, _⟩ => ⟨S4x8x8192, .f32⟩
  | .hbm, ⟨28, _⟩ => ⟨S_, .f32⟩
  | .hbm, ⟨29, _⟩ => ⟨S4x8x8192, .f32⟩
  | .hbm, ⟨30, _⟩ => ⟨S4x8x8192, .f32⟩
  | .hbm, ⟨31, _⟩ => ⟨S4x8x8192x1, .f32⟩
  | .hbm, ⟨32, _⟩ => ⟨S4x8x8192x8192, .f32⟩
  | .hbm, ⟨33, _⟩ => ⟨S4x8x8192x8192, .f32⟩
  | .hbm, ⟨34, _⟩ => ⟨S4x8x8192x8192, .f32⟩
  | .hbm, ⟨35, _⟩ => ⟨S_, .f32⟩
  | .hbm, ⟨36, _⟩ => ⟨S4x8x8192, .f32⟩
  | .hbm, ⟨37, _⟩ => ⟨S4x8x8192x1, .f32⟩
  | .hbm, ⟨38, _⟩ => ⟨S4x8x8192x8192, .f32⟩
  | .hbm, ⟨39, _⟩ => ⟨S4x8x8192x8192, .f32⟩
  | .hbm, ⟨40, _⟩ => ⟨S4x8x128x8192, .f32⟩
  | .hbm, ⟨41, _⟩ => ⟨S4x8192x8x128, .f32⟩
  | .hbm, ⟨42, _⟩ => ⟨S4x8192x1024, .f32⟩
  | .hbm, ⟨43, _⟩ => ⟨S4x1024x8192, .f32⟩
  | .hbm, ⟨44, _⟩ => ⟨S4x1024x8192, .bf16⟩
  | _, _ => ⟨S4x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x6144 : Shape := ⟨2, ![4, 6144]⟩
abbrev S4x1024 : Shape := ⟨2, ![4, 1024]⟩
abbrev S1024x1024 : Shape := ⟨2, ![1024, 1024]⟩
abbrev S2x1024x4096 : Shape := ⟨3, ![2, 1024, 4096]⟩
abbrev S2x4096x1024 : Shape := ⟨3, ![2, 4096, 1024]⟩
abbrev S4x1x1024 : Shape := ⟨3, ![4, 1, 1024]⟩
abbrev S_ : Shape := ⟨0, ![]⟩
abbrev S4x8x1024 : Shape := ⟨3, ![4, 8, 1024]⟩
abbrev S32768x1024 : Shape := ⟨2, ![32768, 1024]⟩
abbrev S4x1024x8192 : Shape := ⟨3, ![4, 1024, 8192]⟩
abbrev S1x1024x1024 : Shape := ⟨3, ![1, 1024, 1024]⟩
abbrev S1x8x1024 : Shape := ⟨3, ![1, 8, 1024]⟩
abbrev S1x1024x4096 : Shape := ⟨3, ![1, 1024, 4096]⟩
abbrev S1x4096x1024 : Shape := ⟨3, ![1, 4096, 1024]⟩
abbrev S1x1024x256 : Shape := ⟨3, ![1, 1024, 256]⟩
abbrev S1024x256 : Shape := ⟨2, ![1024, 256]⟩
abbrev S256x1024 : Shape := ⟨2, ![256, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩

abbrev nBuf : Space → Nat
  | .hbm => 29
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x6144, .f32⟩
  | .hbm, ⟨3, _⟩ => ⟨S4x1024, .f32⟩
  | .hbm, ⟨4, _⟩ => ⟨S1024x1024, .f32⟩
  | .hbm, ⟨5, _⟩ => ⟨S2x1024x4096, .f32⟩
  | .hbm, ⟨6, _⟩ => ⟨S2x4096x1024, .f32⟩
  | .hbm, ⟨7, _⟩ => ⟨S4x1024, .f32⟩
  | .hbm, ⟨8, _⟩ => ⟨S4x1x1024, .f32⟩
  | .hbm, ⟨9, _⟩ => ⟨S4x1024, .f32⟩
  | .hbm, ⟨10, _⟩ => ⟨S4x1x1024, .f32⟩
  | .hbm, ⟨11, _⟩ => ⟨S4x1024, .f32⟩
  | .hbm, ⟨12, _⟩ => ⟨S4x1x1024, .f32⟩
  | .hbm, ⟨13, _⟩ => ⟨S4x1024, .f32⟩
  | .hbm, ⟨14, _⟩ => ⟨S4x1x1024, .f32⟩
  | .hbm, ⟨15, _⟩ => ⟨S4x1024, .f32⟩
  | .hbm, ⟨16, _⟩ => ⟨S4x1x1024, .f32⟩
  | .hbm, ⟨17, _⟩ => ⟨S4x1024, .f32⟩
  | .hbm, ⟨18, _⟩ => ⟨S4x1x1024, .f32⟩
  | .hbm, ⟨19, _⟩ => ⟨S_, .f32⟩
  | .hbm, ⟨20, _⟩ => ⟨S4x1x1024, .f32⟩
  | .hbm, ⟨21, _⟩ => ⟨S4x8x1024, .f32⟩
  | .hbm, ⟨22, _⟩ => ⟨S32768x1024, .f32⟩
  | .hbm, ⟨23, _⟩ => ⟨S4x8192x1024, .bf16⟩
  | .hbm, ⟨24, _⟩ => ⟨S4x1024x8192, .bf16⟩
  | .hbm, ⟨25, _⟩ => ⟨S1024x1024, .bf16⟩
  | .hbm, ⟨26, _⟩ => ⟨S2x1024x4096, .bf16⟩
  | .hbm, ⟨27, _⟩ => ⟨S2x4096x1024, .bf16⟩
  | .hbm, ⟨28, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x8x1024, .f32⟩
  | .local _ .vmem, ⟨5, _⟩ => ⟨S1x8x1024, .f32⟩
  | .local _ .vmem, ⟨6, _⟩ => ⟨S4x1024, .f32⟩
  | .local _ .vmem, ⟨7, _⟩ => ⟨S1024x1024, .bf16⟩
  | .local _ .vmem, ⟨8, _⟩ => ⟨S1x1024x4096, .bf16⟩
  | .local _ .vmem, ⟨9, _⟩ => ⟨S1x4096x1024, .bf16⟩
  | .local _ .vmem, ⟨10, _⟩ => ⟨S1024x1024, .f32⟩
  | .local _ .vmem, ⟨11, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S4x8192x1024 : Shape := ⟨3, ![4, 8192, 1024]⟩
abbrev S4x6144 : Shape := ⟨2, ![4, 6144]⟩
abbrev S4x1024 : Shape := ⟨2, ![4, 1024]⟩
abbrev S1024x1024 : Shape := ⟨2, ![1024, 1024]⟩
abbrev S2x1024x4096 : Shape := ⟨3, ![2, 1024, 4096]⟩
abbrev S2x4096x1024 : Shape := ⟨3, ![2, 4096, 1024]⟩
abbrev S4x1x1024 : Shape := ⟨3, ![4, 1, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x8192x4096 : Shape := ⟨3, ![4, 8192, 4096]⟩
abbrev S1x4096x1024 : Shape := ⟨3, ![1, 4096, 1024]⟩
abbrev S4096x1024 : Shape := ⟨2, ![4096, 1024]⟩
abbrev S32768x1024 : Shape := ⟨2, ![32768, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x6144, .f32⟩
  | .hbm, ⟨3, _⟩ => ⟨S4x1024, .f32⟩
  | .hbm, ⟨4, _⟩ => ⟨S1024x1024, .f32⟩
  | .hbm, ⟨5, _⟩ => ⟨S2x1024x4096, .f32⟩
  | .hbm, ⟨6, _⟩ => ⟨S2x4096x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1x1024, .f32⟩
  | .hbm, ⟨14, _⟩ => ⟨S4x8192x1024, .f32⟩
  | .hbm, ⟨15, _⟩ => ⟨S1x1024, .f32⟩
  | .hbm, ⟨16, _⟩ => ⟨S1024, .f32⟩
  | .hbm, ⟨17, _⟩ => ⟨S4x8192x1024, .f32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1, .f32⟩
  | .hbm, ⟨28, _⟩ => ⟨S4x8192x1024, .f32⟩
  | .hbm, ⟨29, _⟩ => ⟨S4x8192x1024, .f32⟩
  | .hbm, ⟨30, _⟩ => ⟨S1x1x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S1x1024, .f32⟩
  | .hbm, ⟨37, _⟩ => ⟨S1024, .f32⟩
  | .hbm, ⟨38, _⟩ => ⟨S4x8192x1024, .f32⟩
  | .hbm, ⟨39, _⟩ => ⟨S_, .f32⟩
  | .hbm, ⟨40, _⟩ => ⟨S4x8192, .f32⟩
  | .hbm, ⟨41, _⟩ => ⟨S4x8192x1, .f32⟩
  | .hbm, ⟨42, _⟩ => ⟨S_, .f32⟩
  | .hbm, ⟨43, _⟩ => ⟨S4x8192x1, .f32⟩
  | .hbm, ⟨44, _⟩ => ⟨S4x8192x1, .f32⟩
  | .hbm, ⟨45, _⟩ => ⟨S_, .f32⟩
  | .hbm, ⟨46, _⟩ => ⟨S4x8192x1, .f32⟩
  | .hbm, ⟨47, _⟩ => ⟨S4x8192x1, .f32⟩
  | .hbm, ⟨48, _⟩ => ⟨S4x8192x1, .f32⟩
  | .hbm, ⟨49, _⟩ => ⟨S4x8192x1024, .f32⟩
  | .hbm, ⟨50, _⟩ => ⟨S4x8192x1024, .f32⟩
  | .hbm, ⟨51, _⟩ => ⟨S1x1x1024, .f32⟩
  | .hbm, ⟨52, _⟩ => ⟨S4x8192x1024, .f32⟩
  | .hbm, ⟨53, _⟩ => ⟨S4x8192x1024, .f32⟩
  | .hbm, ⟨54, _⟩ => ⟨S4x1x1024, .f32⟩
  | .hbm, ⟨55, _⟩ => ⟨S_, .f32⟩
  | .hbm, ⟨56, _⟩ => ⟨S4x1x1024, .f32⟩
  | .hbm, ⟨57, _⟩ => ⟨S4x1x1024, .f32⟩
  | .hbm, ⟨58, _⟩ => ⟨S4x8192x1024, .f32⟩
  | .hbm, ⟨59, _⟩ => ⟨S4x8192x1024, .f32⟩
  | .hbm, ⟨60, _⟩ => ⟨S4x1x1024, .f32⟩
  | .hbm, ⟨61, _⟩ => ⟨S4x8192x1024, .f32⟩
  | .hbm, ⟨62, _⟩ => ⟨S4x8192x1024, .f32⟩
  | .hbm, ⟨63, _⟩ => ⟨S1x1024x4096, .f32⟩
  | .hbm, ⟨64, _⟩ => ⟨S1024x4096, .f32⟩
  | .hbm, ⟨65, _⟩ => ⟨S4x8192x4096, .f32⟩
  | .hbm, ⟨66, _⟩ => ⟨S_, .f32⟩
  | .hbm, ⟨67, _⟩ => ⟨S4x8192x4096, .f32⟩
  | .hbm, ⟨68, _⟩ => ⟨S4x8192x4096, .f32⟩
  | .hbm, ⟨69, _⟩ => ⟨S4x8192x4096, .f32⟩
  | .hbm, ⟨70, _⟩ => ⟨S1x4096x1024, .f32⟩
  | .hbm, ⟨71, _⟩ => ⟨S4096x1024, .f32⟩
  | .hbm, ⟨72, _⟩ => ⟨S4x8192x1024, .f32⟩
  | .hbm, ⟨73, _⟩ => ⟨S4x1x1024, .f32⟩
  | .hbm, ⟨74, _⟩ => ⟨S1x1024, .f32⟩
  | .hbm, ⟨75, _⟩ => ⟨S1024, .f32⟩
  | .hbm, ⟨76, _⟩ => ⟨S4x8192x1024, .f32⟩
  | .hbm, ⟨77, _⟩ => ⟨S_, .f32⟩
  | .hbm, ⟨78, _⟩ => ⟨S4x8192, .f32⟩
  | .hbm, ⟨79, _⟩ => ⟨S4x8192x1, .f32⟩
  | .hbm, ⟨80, _⟩ => ⟨S_, .f32⟩
  | .hbm, ⟨81, _⟩ => ⟨S4x8192x1, .f32⟩
  | .hbm, ⟨82, _⟩ => ⟨S4x8192x1, .f32⟩
  | .hbm, ⟨83, _⟩ => ⟨S_, .f32⟩
  | .hbm, ⟨84, _⟩ => ⟨S4x8192x1, .f32⟩
  | .hbm, ⟨85, _⟩ => ⟨S4x8192x1, .f32⟩
  | .hbm, ⟨86, _⟩ => ⟨S4x8192x1, .f32⟩
  | .hbm, ⟨87, _⟩ => ⟨S4x8192x1024, .f32⟩
  | .hbm, ⟨88, _⟩ => ⟨S4x8192x1024, .f32⟩
  | .hbm, ⟨89, _⟩ => ⟨S1x1x1024, .f32⟩
  | .hbm, ⟨90, _⟩ => ⟨S4x8192x1024, .f32⟩
  | .hbm, ⟨91, _⟩ => ⟨S4x8192x1024, .f32⟩
  | .hbm, ⟨92, _⟩ => ⟨S4x8192x1024, .f32⟩
  | .hbm, ⟨93, _⟩ => ⟨S4x8192x1024, .f32⟩
  | .hbm, ⟨94, _⟩ => ⟨S4x8192x1024, .f32⟩
  | .hbm, ⟨95, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_call0_cst : Ref sig .tc := ⟨.hbm, 66, rfl⟩
abbrev main_call0_v0 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_6 : Ref sig .tc := ⟨.hbm, 77, rfl⟩
abbrev main_v61 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_cst_8 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024 : Shape := ⟨1, ![1024]⟩
abbrev S4x1024 : Shape := ⟨2, ![4, 1024]⟩
abbrev S1024x3088 : Shape := ⟨2, ![1024, 3088]⟩
abbrev S4x1x1024 : Shape := ⟨3, ![4, 1, 1024]⟩
abbrev S_ : Shape := ⟨0, ![]⟩
abbrev S4x8x1024 : Shape := ⟨3, ![4, 8, 1024]⟩
abbrev S1024x512 : Shape := ⟨2, ![1024, 512]⟩
abbrev S1024x1024 : Shape := ⟨2, ![1024, 1024]⟩
abbrev S1024x16 : Shape := ⟨2, ![1024, 16]⟩
abbrev S1024x2576 : Shape := ⟨2, ![1024, 2576]⟩
abbrev S2576x1024 : Shape := ⟨2, ![2576, 1024]⟩
abbrev S32768x1024 : Shape := ⟨2, ![32768, 1024]⟩
abbrev S1x1024 : Shape := ⟨2, ![1, 1024]⟩
abbrev S32768x512 : Shape := ⟨2, ![32768, 512]⟩
abbrev S4x512x8192 : Shape := ⟨3, ![4, 512, 8192]⟩
abbrev S4x1024x8192 : Shape := ⟨3, ![4, 1024, 8192]⟩
abbrev S4x16x8192 : Shape := ⟨3, ![4, 16, 8192]⟩
abbrev S1x8x1024 : Shape := ⟨3, ![1, 8, 1024]⟩
abbrev S1x512x1024 : Shape := ⟨3, ![1, 512, 1024]⟩
abbrev S1x1024x1024 : Shape := ⟨3, ![1, 1024, 1024]⟩
abbrev S1x16x1024 : Shape := ⟨3, ![1, 16, 1024]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S512x512 : Shape := ⟨2, ![512, 512]⟩
abbrev S2576x512 : Shape := ⟨2, ![2576, 512]⟩
abbrev S1x512x512 : Shape := ⟨3, ![1, 512, 512]⟩
abbrev S1x1024x512 : Shape := ⟨3, ![1, 1024, 512]⟩
abbrev S16x512 : Shape := ⟨2, ![16, 512]⟩
abbrev S1x16x512 : Shape := ⟨3, ![1, 16, 512]⟩

abbrev nBuf : Space → Nat
  | .hbm => 26
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x3088, .f32⟩
  | .hbm, ⟨5, _⟩ => ⟨S4x1x1024, .f32⟩
  | .hbm, ⟨6, _⟩ => ⟨S4x1x1024, .f32⟩
  | .hbm, ⟨7, _⟩ => ⟨S_, .f32⟩
  | .hbm, ⟨8, _⟩ => ⟨S4x1x1024, .f32⟩
  | .hbm, ⟨9, _⟩ => ⟨S4x8x1024, .f32⟩
  | .hbm, ⟨10, _⟩ => ⟨S1024x512, .f32⟩
  | .hbm, ⟨11, _⟩ => ⟨S1024x512, .bf16⟩
  | .hbm, ⟨12, _⟩ => ⟨S1024x512, .f32⟩
  | .hbm, ⟨13, _⟩ => ⟨S1024x1024, .f32⟩
  | .hbm, ⟨14, _⟩ => ⟨S1024x1024, .f32⟩
  | .hbm, ⟨15, _⟩ => ⟨S1024x16, .f32⟩
  | .hbm, ⟨16, _⟩ => ⟨S1024x2576, .f32⟩
  | .hbm, ⟨17, _⟩ => ⟨S2576x1024, .f32⟩
  | .hbm, ⟨18, _⟩ => ⟨S2576x1024, .bf16⟩
  | .hbm, ⟨19, _⟩ => ⟨S32768x1024, .f32⟩
  | .hbm, ⟨20, _⟩ => ⟨S1x1024, .f32⟩
  | .hbm, ⟨21, _⟩ => ⟨S32768x512, .bf16⟩
  | .hbm, ⟨22, _⟩ => ⟨S4x512x8192, .bf16⟩
  | .hbm, ⟨23, _⟩ => ⟨S4x1024x8192, .bf16⟩
  | .hbm, ⟨24, _⟩ => ⟨S4x1024x8192, .bf16⟩
  | .hbm, ⟨25, _⟩ => ⟨S4x16x8192, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x8x1024, .f32⟩
  | .local _ .vmem, ⟨4, _⟩ => ⟨S1x8x1024, .f32⟩
  | .local _ .vmem, ⟨5, _⟩ => ⟨S1024x512, .bf16⟩
  | .local _ .vmem, ⟨6, _⟩ => ⟨S2576x1024, .bf16⟩
  | .local _ .vmem, ⟨7, _⟩ => ⟨S1024x512, .bf16⟩
  | .local _ .vmem, ⟨8, _⟩ => ⟨S1024x512, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x16x1024, .f32⟩
  | .local _ .vmem, ⟨16, _⟩ => ⟨S1x16x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v15_2 : Ref sig .tc := ⟨.hbm, 23, rfl⟩
abbrev main_v15_3 : Ref sig .tc := ⟨.hbm, 24, rfl⟩
abbrev main_v15_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2576x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S4x8192x1024 : Shape := ⟨3, ![4, 8192, 1024]⟩
abbrev S1024 : Shape := ⟨1, ![1024]⟩
abbrev S4x1024 : Shape := ⟨2, ![4, 1024]⟩
abbrev S1024x3088 : Shape := ⟨2, ![1024, 3088]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x3088 : Shape := ⟨3, ![4, 8192, 3088]⟩
abbrev S4x8192x512 : Shape := ⟨3, ![4, 8192, 512]⟩
abbrev S4x8192x8 : Shape := ⟨3, ![4, 8192, 8]⟩
abbrev S4x8192x16 : Shape := ⟨3, ![4, 8192, 16]⟩
abbrev S32768x512 : Shape := ⟨2, ![32768, 512]⟩
abbrev S4x512x8192 : Shape := ⟨3, ![4, 512, 8192]⟩
abbrev S4x1024x8192 : Shape := ⟨3, ![4, 1024, 8192]⟩
abbrev S4x16x8192 : Shape := ⟨3, ![4, 16, 8192]⟩

abbrev nBuf : Space → Nat
  | .hbm => 50
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x3088, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x8192x1024, .f32⟩
  | .hbm, ⟨26, _⟩ => ⟨S4x8192x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x3088, .f32⟩
  | .hbm, ⟨31, _⟩ => ⟨S4x8192x512, .f32⟩
  | .hbm, ⟨32, _⟩ => ⟨S4x8192x512, .f32⟩
  | .hbm, ⟨33, _⟩ => ⟨S4x8192x1024, .f32⟩
  | .hbm, ⟨34, _⟩ => ⟨S4x8192x8, .f32⟩
  | .hbm, ⟨35, _⟩ => ⟨S4x8192x8, .f32⟩
  | .hbm, ⟨36, _⟩ => ⟨S4x8192x1024, .f32⟩
  | .hbm, ⟨37, _⟩ => ⟨S_, .f32⟩
  | .hbm, ⟨38, _⟩ => ⟨S4x8192x512, .f32⟩
  | .hbm, ⟨39, _⟩ => ⟨S4x8192x512, .f32⟩
  | .hbm, ⟨40, _⟩ => ⟨S4x8192x16, .f32⟩
  | .hbm, ⟨41, _⟩ => ⟨S32768x512, .f32⟩
  | .hbm, ⟨42, _⟩ => ⟨S32768x512, .bf16⟩
  | .hbm, ⟨43, _⟩ => ⟨S4x512x8192, .f32⟩
  | .hbm, ⟨44, _⟩ => ⟨S4x512x8192, .bf16⟩
  | .hbm, ⟨45, _⟩ => ⟨S4x1024x8192, .f32⟩
  | .hbm, ⟨46, _⟩ => ⟨S4x1024x8192, .bf16⟩
  | .hbm, ⟨47, _⟩ => ⟨S4x1024x8192, .f32⟩
  | .hbm, ⟨48, _⟩ => ⟨S4x1024x8192, .bf16⟩
  | .hbm, ⟨49, _⟩ => ⟨S4x16x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.Value
public import Idealize.ShloMosaic.Lib.Pipeline.ValueKit.Tiles
public import Mathlib.Tactic.IntervalCases
public import Mathlib.Tactic.FinCases
public import Mathlib.Tactic.NormNum
public import Idealize.ShloMosaic.Lib.VecWindow
public import Idealize.ShloMosaic.Lib.WholeRead

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-! ## The offsets, the trip count and the branch, as plain numbers -/

/-- The pair loop runs half as many trips as the query block's number. -/
theorem trips_eq (i : grid0.Coords) : (k0_t1_loop i).trips = (i 2).val / 2 := by
  have h : (i 2).val < 8 := (i 2).isLt
  generalize hn : (i 2).val = n at *
  unfold k0_t1_loop
  simp only [hn]
  interval_cases n <;> decide +kernel

/-- The second copy of the loop (for a count that is no whole number of steps) runs no trip. -/
theorem trips2_eq (i : grid0.Coords) : (k0_t2_loop i).trips = 0 := by
  have := (k0_t2_abs i).2.1
  omega

/-- The branch taken is the odd one exactly when the query block's number is odd. -/
theorem cond_eq (i : grid0.Coords) : k0_cond1 i = 1#1 ↔ (i 2).val % 2 = 1 := by
  have h : (i 2).val < 8 := (i 2).isLt
  generalize hn : (i 2).val = n at *
  unfold k0_cond1
  simp only [hn]
  interval_cases n <;> decide +kernel

/-- A trip of the pair loop reads the keys of block `2k+1` … -/
theorem off1a (i : grid0.Coords) (k : Fin (k0_t1_loop i).trips) : k0_off1 i k 1#32 = ![0, 1024 * (2 * k.val + 1), 0] := by
  have h : k.val < 3 := lt_of_lt_of_le k.isLt (k0_t1_abs i).2.1
  unfold k0_off1
  generalize k.val = n at *
  interval_cases n <;> rfl

/-- … and of block `2k+2`, -/
theorem off1b (i : grid0.Coords) (k : Fin (k0_t1_loop i).trips) : k0_off1 i k 2#32 = ![0, 1024 * (2 * k.val + 1 + 1), 0] := by
  have h : k.val < 3 := lt_of_lt_of_le k.isLt (k0_t1_abs i).2.1
  unfold k0_off1
  generalize k.val = n at *
  interval_cases n <;> rfl

/-- the values of block `2k` … -/
theorem off2 (i : grid0.Coords) (k : Fin (k0_t1_loop i).trips) : k0_off2 i k = ![0, 2 * k.val, 0, 0] := by
  have h : k.val < 3 := lt_of_lt_of_le k.isLt (k0_t1_abs i).2.1
  unfold k0_off2
  generalize k.val = n at *
  interval_cases n <;> rfl

/-- … and of block `2k+1`. -/
theorem off3 (i : grid0.Coords) (k : Fin (k0_t1_loop i).trips) : k0_off3 i k = ![0, 2 * k.val + 1, 0, 0] := by
  have h : k.val < 3 := lt_of_lt_of_le k.isLt (k0_t1_abs i).2.1
  unfold k0_off3
  generalize k.val = n at *
  interval_cases n <;> rfl

/-- The odd branch's first step reads the values of the block before the query block. -/
theorem off8 (i : grid0.Coords) (hodd : (i 2).val % 2 = 1) : k0_off8 i = ![0, (i 2).val - 1, 0, 0] := by
  have h : (i 2).val < 8 := (i 2).isLt
  unfold k0_off8
  generalize (i 2).val = n at *
  interval_cases n <;> first | rfl | omega

/-! ## What the body computes, block by block -/

/-- Key rows of block `j`: rows `1024 j … 1024 j + 1023` (the block's number read modulo eight). -/
def kRows (x1 : FVec F S1x8192x256 .bf16) (j : ℕ) : FVec F S1x1024x256 .bf16 :=
  fun y => x1 (fun a => ⟨![0, 1024 * (j % 8), 0] a + (y a).val, by
    have := Nat.mod_lt j (by norm_num : 0 < 8)
    have hy := (y a).isLt
    revert hy
    fin_cases a <;> simp [Shape.size, S1x1024x256, S1x8192x256] <;> omega⟩)

/-- Value rows of block `j`. -/
def vBlk (x2 : FVec F S1x8x144x1024 .bf16) (j : ℕ) : FVec F S1x1x144x1024 .bf16 :=
  fun y => x2 (fun a => ⟨![0, j % 8, 0, 0] a + (y a).val, by
    have := Nat.mod_lt j (by norm_num : 0 < 8)
    have hy := (y a).isLt
    revert hy
    fin_cases a <;> simp [Shape.size, S1x1x144x1024, S1x8x144x1024] <;> omega⟩)

/-- Scores of key block `j` against the query block. -/
def sc (x0 : FVec F S1x256x1024 .bf16) (x1 : FVec F S1x8192x256 .bf16) (j : ℕ) : FVec F S1024x1024 .f32 :=
  k0_pay20 (kRows x1 j) x0

/-- The running maximum and the running sums after `n` whole key blocks. -/
def st (x0 : FVec F S1x256x1024 .bf16) (x1 : FVec F S1x8192x256 .bf16) (x2 : FVec F S1x8x144x1024 .bf16) :
    ℕ → FVec F S1x1024 .f32 × FVec F S144x1024 .f32
  | 0 => (k0_pay21, k0_pay22)
  | n + 1 => (k0_pay8 (st x0 x1 x2 n).1 (sc x0 x1 n), k0_pay9 (st x0 x1 x2 n).1 (st x0 x1 x2 n).2 (sc x0 x1 n) (vBlk x2 n))

/-- The block written for query block `n`: the diagonal block's masked step, then the division. -/
def outBlk (x0 : FVec F S1x256x1024 .bf16) (x1 : FVec F S1x8192x256 .bf16) (x2 : FVec F S1x8x144x1024 .bf16) (n : ℕ) :
    FVec F S1x128x1024 .bf16 :=
  k0_pay6 (k0_pay5 (st x0 x1 x2 n).1 (st x0 x1 x2 n).2 (sc x0 x1 n) (vBlk x2 n))

/-- Loading rows at the offset of key block `j` reads `kRows`. -/
theorem load_k (arg : Memref sig .tc .vmem S1x8192x256 .bf16) (h : arg.IsWhole) (x : FVec F S1x8192x256 .bf16)
    {off : Fin 3 → ℕ} (inb : ∀ a, off a + S1x1024x256.size a ≤ S1x8192x256.size a) (j : ℕ) (hj : j < 8) (e : off = ![0, 1024 * j, 0]) :
    View.readAt (Elt F) arg.view (Rect.unit (s := S1x8192x256) off S1x1024x256.size inb).toLoadRect (h.unread x) = kRows x j := by
  subst e
  rw [View.readAt_eq_ld, h.read_unread]
  funext y
  unfold kRows
  refine View.ld_unit_apply_of _ _ _ _ _ _ ?_
  intro a
  simp only [Nat.mod_eq_of_lt hj]

/-- Loading at the offset of value block `j` reads `vBlk`. -/
theorem load_v (arg : Memref sig .tc .vmem S1x8x144x1024 .bf16) (h : arg.IsWhole) (x : FVec F S1x8x144x1024 .bf16)
    {off : Fin 4 → ℕ} (inb : ∀ a, off a + S1x1x144x1024.size a ≤ S1x8x144x1024.size a) (j : ℕ) (hj : j < 8) (e : off = ![0, j, 0, 0]) :
    View.readAt (Elt F) arg.view (Rect.unit (s := S1x8x144x1024) off S1x1x144x1024.size inb).toLoadRect (h.unread x) = vBlk x j := by
  subst e
  rw [View.readAt_eq_ld, h.read_unread]
  funext y
  unfold vBlk
  refine View.ld_unit_apply_of _ _ _ _ _ _ ?_
  intro a
  simp only [Nat.mod_eq_of_lt hj]

/-- Contents written whole read back as what was written. -/
theorem readAt_scratch (arg : Memref sig .tc .vmem S1024x1024 .f32) (h : arg.IsWhole) (f : arg.view.ty.Contents (Elt F))
    (s : FVec F S1024x1024 .f32) (e : arg.view.read (Elt F) f = s) (inb : ∀ a, (![0, 0] : Fin 2 → ℕ) a + S1024x1024.size a ≤ S1024x1024.size a) :
    View.readAt (Elt F) arg.view (Rect.unit (s := S1024x1024) ![0, 0] S1024x1024.size inb).toLoadRect f = s := by
  rw [View.readAt_eq_ld, e]
  exact View.ld_unit_lit _ _ (by decide)

/-- Loading the query block whole reads it. -/
theorem load_q (arg : Memref sig .tc .vmem S1x256x1024 .bf16) (h : arg.IsWhole) (x : FVec F S1x256x1024 .bf16)
    (inb : ∀ a, (![0, 0, 0] : Fin 3 → ℕ) a + S1x256x1024.size a ≤ S1x256x1024.size a) :
    View.readAt (Elt F) arg.view (Rect.unit (s := S1x256x1024) ![0, 0, 0] S1x256x1024.size inb).toLoadRect (h.unread x) = x := by
  rw [View.readAt_eq_ld, h.read_unread]
  exact View.ld_unit_lit _ _ (by decide)

/-! ## The pair loop by its invariant -/

/-- Before trip `k`: the three inputs as they were; the first scratch holds the scores of block `2k`; the second anything;
    carried, the state after `2k` blocks. -/
abbrev inv1 (c : Dev nD) (arg3 : Memref sig .tc .vmem S1x256x1024 .bf16) (harg3 : arg3.IsWhole) (arg4 : Memref sig .tc .vmem S1x8192x256 .bf16) (harg4 : arg4.IsWhole) (arg5 : Memref sig .tc .vmem S1x8x144x1024 .bf16) (harg5 : arg5.IsWhole) (arg6 : Memref sig .tc .vmem S1x128x1024 .bf16) (harg6 : arg6.IsWhole) (arg7 : Memref sig .tc .vmem S1024x1024 .f32) (harg7 : arg7.IsWhole) (arg8 : Memref sig .tc .vmem S1024x1024 .f32) (harg8 : arg8.IsWhole) (x0 : FVec F S1x256x1024 .bf16) (x1 : FVec F S1x8192x256 .bf16) (x2 : FVec F S1x8x144x1024 .bf16)
    (k : ℕ) (acc : FVec F S1x1024 .f32 × FVec F S144x1024 .f32) : sProp 𝕄 :=
  iprop((arg3.view.loc (c : Thread nD τ) ↦[arg3.view.set]{fullShare} harg3.unread x0)
    ∗ (arg4.view.loc (c : Thread nD τ) ↦[arg4.view.set]{fullShare} harg4.unread x1)
    ∗ (arg5.view.loc (c : Thread nD τ) ↦[arg5.view.set]{fullShare} harg5.unread x2)
    ∗ (∃ f, (arg7.view.loc (c : Thread nD τ) ↦[arg7.view.set]{fullShare} f) ∗ ⌜arg7.view.read (Elt F) f = sc x0 x1 (2 * k)⌝)
    ∗ (∃ f, (arg8.view.loc (c : Thread nD τ) ↦[arg8.view.set]{fullShare} f))
    ∗ ⌜acc = st x0 x1 x2 (2 * k)⌝)

/-- One trip: two steps of the state, the scores of the next block left in the first scratch. -/
theorem trip1 (𝒱 : Variants) (c : Dev nD) (bd : Option 𝒱.V) (E : Set ℕ) (i : grid0.Coords) (arg3 : Memref sig .tc .vmem S1x256x1024 .bf16) (harg3 : arg3.IsWhole) (arg4 : Memref sig .tc .vmem S1x8192x256 .bf16) (harg4 : arg4.IsWhole) (arg5 : Memref sig .tc .vmem S1x8x144x1024 .bf16) (harg5 : arg5.IsWhole) (arg6 : Memref sig .tc .vmem S1x128x1024 .bf16) (harg6 : arg6.IsWhole) (arg7 : Memref sig .tc .vmem S1024x1024 .f32) (harg7 : arg7.IsWhole) (arg8 : Memref sig .tc .vmem S1024x1024 .f32) (harg8 : arg8.IsWhole)
    (x0 : FVec F S1x256x1024 .bf16) (x1 : FVec F S1x8192x256 .bf16) (x2 : FVec F S1x8x144x1024 .bf16)
    (k : Fin (k0_t1_loop i).trips) (acc : FVec F S1x1024 .f32 × FVec F S144x1024 .f32) :
    inv1 (F := F) c arg3 harg3 arg4 harg4 arg5 harg5 arg6 harg6 arg7 harg7 arg8 harg8 x0 x1 x2 k.val acc
    ⊢ wp Idealize.ShloMosaic.frame (wpE (defs₀ (F := F)) 𝒱 (c : Thread nD τ) bd) E (k0_t1_body (F := F) i arg3 harg3 arg4 harg4 arg5 harg5 arg6 harg6 arg7 harg7 arg8 harg8 k acc)
        (fun yld => inv1 (F := F) c arg3 harg3 arg4 harg4 arg5 harg5 arg6 harg6 arg7 harg7 arg8 harg8 x0 x1 x2 (k.val + 1) yld) := by
  iintro ⟨H3, H4, H5, ⟨%f7, H7, %h7⟩, ⟨%f8, H8⟩, %hacc⟩
  subst hacc
  have hk : k.val < 3 := lt_of_lt_of_le k.isLt (k0_t1_abs i).2.1
  unfold k0_t1_body
  sl_exec
  sl_step
  isplitl [H3]; · iexact H3
  isplitl [H4]; · iexact H4
  isplitl [H5]; · iexact H5
  isplitl [H7]
  · iexists _
    isplitl [H7]; · iexact H7
    ipureintro
    sl_unfold_words
    exact (View.read_writes_full _ _ _ _ _).trans
      (congrArg₂ k0_pay20 (load_k arg4 harg4 x1 _ (2 * k.val + 1 + 1) (by omega) (off1b i k)) (load_q arg3 harg3 x0 _))
  isplitl [H8]; · iexists _; iexact H8
  ipureintro
  sl_unfold_words
  have e7 := readAt_scratch arg7 harg7 f7 _ h7 inb_S1024x1024_S1024x1024_0_0
  have e8 := congrArg₂ (k0_pay7 (F := F)) (load_k arg4 harg4 x1 (k0_off1_inb i k 0) (2 * k.val + 1) (by omega) (off1a i k)) (load_q arg3 harg3 x0 inb_S1x256x1024_S1x256x1024_0_0_0)
  have ev := load_v arg5 harg5 x2 (k0_off2_inb i k) (2 * k.val) (by omega) (off2 i k)
  have ew := load_v arg5 harg5 x2 (k0_off3_inb i k) (2 * k.val + 1) (by omega) (off3 i k)
  have e8' : ∀ w, w = sc x0 x1 (2 * k.val + 1) → arg8.view.readCov (Val := Elt F) [⟨Rect.unit ![0, 0] S1024x1024.size inb_S1024x1024_S1024x1024_0_0, w⟩]
      (Rect.unit ![0, 0] S1024x1024.size inb_S1024x1024_S1024x1024_0_0).toLoadRect = sc x0 x1 (2 * k.val + 1) := fun w hw =>
    (View.readCov_full _ _ _ _ _).trans hw
  have m1 : k0_pay8 (st x0 x1 x2 (2 * k.val)).1 _ = (st x0 x1 x2 (2 * k.val + 1)).1 := congrArg (k0_pay8 (st x0 x1 x2 (2 * k.val)).1) e7
  have a1 : k0_pay9 (st x0 x1 x2 (2 * k.val)).1 (st x0 x1 x2 (2 * k.val)).2 _ _ = (st x0 x1 x2 (2 * k.val + 1)).2 :=
    congrArg₂ (k0_pay9 (st x0 x1 x2 (2 * k.val)).1 (st x0 x1 x2 (2 * k.val)).2) e7 ev
  refine Prod.ext ?_ ?_
  · exact congrArg₂ k0_pay24 m1 (e8' _ e8)
  · have h := congr (congr (congr (congrArg k0_pay25 m1) a1) (e8' _ e8)) ew
    exact h

/-- The odd branch's step and diagonal, over equal loads. -/
theorem odd_congr (m : FVec F S1x1024 .f32) (a : FVec F S144x1024 .f32) {s s' t t' : FVec F S1024x1024 .f32} {v v' w w' : FVec F S1x1x144x1024 .bf16}
    (es : s = s') (ev : v = v') (et : t = t') (ew : w = w') :
    k0_pay4 (k0_pay16 m s) (k0_pay17 m a s v) (k0_pay18 t) (k0_pay19 m s t) w = k0_pay5 (k0_pay8 m s') (k0_pay9 m a s' v') t' w' := by
  subst es ev et ew
  rfl

/-- One grid point: from the query block, the keys and the values, the output block. -/
theorem kernelRun (𝒱 : Variants) (c : Dev nD) (bd : Option 𝒱.V) (E : Set ℕ) (i : grid0.Coords) (arg3 : Memref sig .tc .vmem S1x256x1024 .bf16) (harg3 : arg3.IsWhole) (arg4 : Memref sig .tc .vmem S1x8192x256 .bf16) (harg4 : arg4.IsWhole) (arg5 : Memref sig .tc .vmem S1x8x144x1024 .bf16) (harg5 : arg5.IsWhole) (arg6 : Memref sig .tc .vmem S1x128x1024 .bf16) (harg6 : arg6.IsWhole) (arg7 : Memref sig .tc .vmem S1024x1024 .f32) (harg7 : arg7.IsWhole) (arg8 : Memref sig .tc .vmem S1024x1024 .f32) (harg8 : arg8.IsWhole)
    (x0 : FVec F S1x256x1024 .bf16) (x1 : FVec F S1x8192x256 .bf16) (x2 : FVec F S1x8x144x1024 .bf16)
    (K : PUnit → sProp 𝕄) :
    iprop(owns (c : Thread nD τ) arg3 fullShare x0 ∗ owns (c : Thread nD τ) arg4 fullShare x1 ∗ owns (c : Thread nD τ) arg5 fullShare x2
      ∗ (∃ d, owns (c : Thread nD τ) arg6 fullShare d) ∗ (∃ d, owns (c : Thread nD τ) arg7 fullShare d) ∗ (∃ d, owns (c : Thread nD τ) arg8 fullShare d)
      ∗ (owns (c : Thread nD τ) arg3 fullShare x0 ∗ owns (c : Thread nD τ) arg4 fullShare x1 ∗ owns (c : Thread nD τ) arg5 fullShare x2
          ∗ owns (c : Thread nD τ) arg6 fullShare (outBlk x0 x1 x2 (i 2).val)
          ∗ (∃ d, owns (c : Thread nD τ) arg7 fullShare d) ∗ (∃ d, owns (c : Thread nD τ) arg8 fullShare d) -∗ K ⟨⟩))
    ⊢ wp Idealize.ShloMosaic.frame (wpE (defs₀ (F := F)) 𝒱 (c : Thread nD τ) bd) E (cc0_attn (F := F) i arg3 harg3 arg4 harg4 arg5 harg5 arg6 harg6 arg7 harg7 arg8 harg8) K := by
  unfold owns
  iintro ⟨⟨%f3, %h3, H3⟩, ⟨%f4, %h4, H4⟩, ⟨%f5, %h5, H5⟩, ⟨%d6, %f6, %h6, H6⟩, ⟨%d7, %f7, %h7, H7⟩, ⟨%d8, %f8, %h8, H8⟩, Hk⟩
  obtain rfl := harg3.eq_unread h3
  obtain rfl := harg4.eq_unread h4
  obtain rfl := harg5.eq_unread h5
  simp only [cc0_attn_eq_skeleton]
  unfold cc0_attn_skel
  sl_exec
  sl_for (inv1 (F := F) c arg3 harg3 arg4 harg4 arg5 harg5 arg6 harg6 arg7 harg7 arg8 harg8 x0 x1 x2) $$ [H3 H4 H5 H7 H8]
  · intro k acc; exact trip1 𝒱 c bd E i arg3 harg3 arg4 harg4 arg5 harg5 arg6 harg6 arg7 harg7 arg8 harg8 x0 x1 x2 k acc
  · isplitl [H3]; · iexact H3
    isplitl [H4]; · iexact H4
    isplitl [H5]; · iexact H5
    isplitl [H7]
    · iexists _
      isplitl [H7]; · iexact H7
      ipureintro
      sl_unfold_words
      exact (View.read_writes_full _ _ _ _ _).trans
        (congrArg₂ k0_pay20 (load_k arg4 harg4 x1 _ 0 (by omega) rfl) (load_q arg3 harg3 x0 _))
    isplitl [H8]; · iexists _; iexact H8
    ipureintro; rfl
  · iintro %acc ⟨H3, H4, H5, ⟨%g7, H7, %e7⟩, ⟨%g8, H8⟩, %hacc⟩
    obtain ⟨m, a⟩ := acc
    have hq : (i 2).val < 8 := (i 2).isLt
    have ht : Scf.trips (k0_t1_loop i).lb (k0_t1_loop i).ub (k0_t1_loop i).st = (i 2).val / 2 := trips_eq i
    rw [ht] at e7 hacc
    sl_exec
    sl_for (fun (_ : ℕ) (acc : FVec F S1x1024 .f32 × FVec F S144x1024 .f32) => (iprop(⌜acc = (m, a)⌝) : sProp 𝕄)) $$ []
    · intro k acc; exact absurd k.isLt (by have := trips2_eq i; change ¬ k.val < (k0_t2_loop i).trips; omega)
    · ipureintro; rfl
    · iintro %acc %hacc2
      subst hacc2
      by_cases hc : k0_cond1 i = 1#1
      · have hodd := (cond_eq i).1 hc
        have hn : 2 * ((i 2).val / 2) + 1 = (i 2).val := by omega
        obtain ⟨rfl, rfl⟩ : m = (st x0 x1 x2 (2 * ((i 2).val / 2))).1 ∧ a = (st x0 x1 x2 (2 * ((i 2).val / 2))).2 :=
          ⟨congrArg Prod.fst hacc, congrArg Prod.snd hacc⟩
        sl_exec
        sl_step
        iapply Hk
        isplitl [H3]; · iexists _; isplitr [H3]; swap; · iexact H3
                        ipureintro; exact h3
        isplitl [H4]; · iexists _; isplitr [H4]; swap; · iexact H4
                        ipureintro; exact h4
        isplitl [H5]; · iexists _; isplitr [H5]; swap; · iexact H5
                        ipureintro; exact h5
        isplitl [H6]
        · iexists _
          isplitr [H6]
          swap
          · iexact H6
          · ipureintro
            sl_unfold_words
            refine (View.read_writes_full _ _ _ _ _).trans (congrArg k0_pay6 ?_)
            have es := readAt_scratch arg7 harg7 g7 _ e7 inb_S1024x1024_S1024x1024_0_0
            have ev := load_v arg5 harg5 x2 (k0_off8_inb i hc) (2 * ((i 2).val / 2)) (by omega) ((off8 i hodd).trans (congrArg (fun n : ℕ => (![0, n, 0, 0] : Fin 4 → ℕ)) (by omega)))
            have ew := load_v arg5 harg5 x2 (k0_off9_inb i hc) (i 2).val hq (k0_off9_eq i)
            have ek := congrArg₂ (k0_pay15 (F := F)) (load_k arg4 harg4 x1 (k0_off7_inb i hc) (i 2).val hq (k0_off7_eq i)) (load_q arg3 harg3 x0 inb_S1x256x1024_S1x256x1024_0_0_0)
            have ek' : ∀ w, w = sc x0 x1 (i 2).val → arg8.view.readCov (Val := Elt F) [⟨Rect.unit ![0, 0] S1024x1024.size inb_S1024x1024_S1024x1024_0_0, w⟩]
                (Rect.unit ![0, 0] S1024x1024.size inb_S1024x1024_S1024x1024_0_0).toLoadRect = sc x0 x1 (i 2).val := fun w hw =>
              (View.readCov_full _ _ _ _ _).trans hw
            have h := odd_congr (st x0 x1 x2 (2 * ((i 2).val / 2))).1 (st x0 x1 x2 (2 * ((i 2).val / 2))).2 es ev (ek' _ ek) ew
            refine h.trans ?_
            have hs : st x0 x1 x2 (i 2).val = st x0 x1 x2 (2 * ((i 2).val / 2) + 1) := by rw [hn]
            rw [hs]
            rfl
        isplitl [H7]; · iexists _; iexists _; isplitr [H7]; swap; · iexact H7
                        ipureintro; rfl
        iexists _; iexists _; isplitr [H8]; swap; · iexact H8
        ipureintro; rfl
      · have heven : (i 2).val % 2 = 0 := by have := mt (cond_eq i).2 hc; omega
        have hn : 2 * ((i 2).val / 2) = (i 2).val := by omega
        rw [hn] at e7 hacc
        obtain ⟨rfl, rfl⟩ : m = (st x0 x1 x2 (i 2).val).1 ∧ a = (st x0 x1 x2 (i 2).val).2 :=
          ⟨congrArg Prod.fst hacc, congrArg Prod.snd hacc⟩
        sl_exec
        sl_step
        iapply Hk
        isplitl [H3]; · iexists _; isplitr [H3]; swap; · iexact H3
                        ipureintro; exact h3
        isplitl [H4]; · iexists _; isplitr [H4]; swap; · iexact H4
                        ipureintro; exact h4
        isplitl [H5]; · iexists _; isplitr [H5]; swap; · iexact H5
                        ipureintro; exact h5
        isplitl [H6]
        · iexists _
          isplitr [H6]
          swap
          · iexact H6
          · ipureintro
            refine (View.read_writes_full _ _ _ _ _).trans (congrArg k0_pay6 ?_)
            exact congrArg₂ (k0_pay5 (st x0 x1 x2 (i 2).val).1 (st x0 x1 x2 (i 2).val).2)
              (readAt_scratch arg7 harg7 g7 _ e7 _) (load_v arg5 harg5 x2 _ (i 2).val hq (k0_off10_eq i))
        isplitl [H7]; · iexists _; iexists _; isplitr [H7]; swap; · iexact H7
                        ipureintro; rfl
        iexists _; iexists _; isplitr [H8]; swap; · iexact H8
        ipureintro; rfl

end Cert.KernelIdeal.Attn

end
-- ==== Proof.Run.lean ====
module

public import proofs.«01_k».proof.Proof.Body
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block a grid point writes: the attention of its query block over the key and value blocks it is handed. -/
def oblk (c : Dev nD) (t : Fin cfg0.N) : FVec F S1x128x1024 .bf16 :=
  outBlk (iblk m c 0 t) (iblk m c 1 t) (iblk m c 2 t) ((grid0.coords t) 2).val

/-- What is known of each array and buffer: the arrays as the region finds them, after each point the inputs' buffers
    at their blocks and the output's at the block computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oblk m c t
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

/-- After a point the query buffer holds its block, -/
theorem after0 (c : Dev nD) (t : Fin cfg0.N) : (dats m 0 c).after 0 t = iblk m c 0 t := by dsimp only [dats]
/-- the key buffer its block, -/
theorem after1 (c : Dev nD) (t : Fin cfg0.N) : (dats m 0 c).after 1 t = iblk m c 1 t := by dsimp only [dats]
/-- the value buffer its block, -/
theorem after2 (c : Dev nD) (t : Fin cfg0.N) : (dats m 0 c).after 2 t = iblk m c 2 t := by dsimp only [dats]
/-- and the output buffer the block computed. -/
theorem after3 (c : Dev nD) (t : Fin cfg0.N) : (dats m 0 c).after 3 t = oblk m c t := by dsimp only [dats]

/-- Before a point the query buffer holds its block, -/
theorem before0 (c : Dev nD) (t : Fin cfg0.N) (d) : (dats m 0 c).before 0 t d = iblk m c 0 t :=
  before0_0_of m (dats m 0 c) (A_eq m c 0) (after0 m c) t d
/-- the key buffer its block, -/
theorem before1 (c : Dev nD) (t : Fin cfg0.N) (d) : (dats m 0 c).before 1 t d = iblk m c 1 t :=
  before0_1_of m (dats m 0 c) (A_eq m c 1) (after1 m c) t d
/-- and the value buffer its block. -/
theorem before2 (c : Dev nD) (t : Fin cfg0.N) (d) : (dats m 0 c).before 2 t d = iblk m c 2 t :=
  before0_2_of m (dats m 0 c) (A_eq m c 2) (after2 m c) t d

/-- What is kept between points: the two scratch buffers at anything, and the generator register. -/
theorem Phi_eq (c : Dev nD) : (Pipeline.ΦA spec0 c : sProp 𝕄)
    = iprop(iprop((∃ d, owns (c : Thread nD τ) (Memref.whole cc0_scratch0) fullShare d)
        ∗ (∃ d, owns (c : Thread nD τ) (Memref.whole cc0_scratch1) fullShare d)) ∗ (∃ r, prngReg c r)) := by
  unfold Pipeline.ΦA
  rw [scopedRest0_eq]
  simp only [owns_whole]
  try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point computes the block named. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  rw [show (dats m 0 c).Φ t.castSucc = Pipeline.ΦA spec0 c from rfl, Phi_eq]
  iintro ⟨⟨⟨HS0, HS1⟩, Hg⟩, Ho, ⟨%d0, H0⟩, ⟨%d1, H1⟩, ⟨%d2, H2⟩, ⟨%d3, H3⟩⟩
  iapply (kernelRun Variants.none c none Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The obligation of the pipeline at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the rule's implicit arguments are found by unifying its conclusion, unfolding plain definitions in a metavariable's type
set_option backward.isDefEq.respectTransparency.types false in
/-- Every weakly fair execution ends, with the arrays as the pipeline leaves them and every counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution of the kernel ends with the arrays as the launch leaves them. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.Tile.lean ====
module

public import proofs.«01_k».proof.Proof.Run
public import Idealize.ShloMosaic.Lib.Pointwise
public import Idealize.ShloMosaic.Lib.Pipeline.ValueKit

@[expose] public section

set_option maxRecDepth 16384

noncomputable section

namespace Cert.KernelIdeal.Attn

open Idealize.ShloMosaic Idealize.ShloMosaic.TcCoe
open Idealize.ShloMosaic.Pipeline (Dat)
open Cert.KernelIdeal.Gen

variable {F : FTy → Type} [FloatOps F]
variable (m : (ℓ : Loc nD τ sig) → Buf (Elt F) ℓ) (ρ : Dev nD → PrngReg)

/-- A point's number is below 256. -/
theorem lt_N (t : Fin cfg0.N) : t.val < 256 := lt_of_lt_of_eq t.isLt N_0

/-- A point's batch is its number over 64, -/
theorem crd0 (t : Fin grid0.N) : ((grid0.coords t) 0).val = t.val / 64 % 4 := Pipeline.Grid.coords_val t 0 (by decide) (by decide)
/-- its head its number over 8, modulo 8, -/
theorem crd1 (t : Fin grid0.N) : ((grid0.coords t) 1).val = t.val / 8 % 8 := Pipeline.Grid.coords_val t 1 (by decide) (by decide)
/-- and its block of queries its number modulo 8. -/
theorem crd2 (t : Fin grid0.N) : ((grid0.coords t) 2).val = t.val / 1 % 8 := Pipeline.Grid.coords_val t 2 (by decide) (by decide)

/-- A small number survives its 32-bit word. -/
theorem word_nat (n : ℕ) (h : n < 8192) : (BitVec.ofNat 32 n).toNat = n := by
  rw [BitVec.toNat_ofNat]; omega

/-- Where a point's blocks lie: the queries', -/
theorem idx0 (t : Fin grid0.N) : win0_0.index t = ![t.val / 64 % 4, t.val / 8 % 8, t.val / 1 % 8] := by
  show ![(BitVec.ofNat 32 ((grid0.coords t) 0).val).toNat, (BitVec.ofNat 32 ((grid0.coords t) 1).val).toNat, (BitVec.ofNat 32 ((grid0.coords t) 2).val).toNat] = _
  rw [crd0, crd1, crd2, word_nat _ (by omega), word_nat _ (by omega), word_nat _ (by omega)]
/-- the keys', -/
theorem idx1 (t : Fin grid0.N) : win0_1.index t = ![t.val / 64 % 4, 0, t.val / 8 % 8] := by
  show ![(BitVec.ofNat 32 ((grid0.coords t) 0).val).toNat, 0, (BitVec.ofNat 32 ((grid0.coords t) 1).val).toNat] = _
  rw [crd0, crd1, word_nat _ (by omega), word_nat _ (by omega)]
/-- the values', -/
theorem idx2 (t : Fin grid0.N) : win0_2.index t = ![t.val / 64 % 4, 0, t.val / 8 % 8, 0] := by
  show ![(BitVec.ofNat 32 ((grid0.coords t) 0).val).toNat, 0, (BitVec.ofNat 32 ((grid0.coords t) 1).val).toNat, 0] = _
  rw [crd0, crd1, word_nat _ (by omega), word_nat _ (by omega)]
/-- and the result's. -/
theorem idx3 (t : Fin grid0.N) : win0_3.index t = ![t.val / 64 % 4, t.val / 8 % 8, t.val / 1 % 8] := by
  show ![(BitVec.ofNat 32 ((grid0.coords t) 0).val).toNat, (BitVec.ofNat 32 ((grid0.coords t) 1).val).toNat, (BitVec.ofNat 32 ((grid0.coords t) 2).val).toNat] = _
  rw [crd0, crd1, crd2, word_nat _ (by omega), word_nat _ (by omega), word_nat _ (by omega)]

/-- A block of the packed queries read at an index is the array at the block's place. -/
theorem read0 (X : (b : Ref sig .tc) → b.ty.Contents (Elt F)) (t : Fin cfg0.N) (y) (i) (hi : ((cfg0.win 0).blk t).view.emb y = i) :
    ((cfg0.win 0).blk t).view.read (Elt F) (X (Pipeline.arrRef spec0 0)) y = X main_v11 i := by subst hi; rfl
/-- So is a block of the keys, -/
theorem read1 (X : (b : Ref sig .tc) → b.ty.Contents (Elt F)) (t : Fin cfg0.N) (y) (i) (hi : ((cfg0.win 1).blk t).view.emb y = i) :
    ((cfg0.win 1).blk t).view.read (Elt F) (X (Pipeline.arrRef spec0 1)) y = X main_v17 i := by subst hi; rfl
/-- and one of the values. -/
theorem read2 (X : (b : Ref sig .tc) → b.ty.Contents (Elt F)) (t : Fin cfg0.N) (y) (i) (hi : ((cfg0.win 2).blk t).view.emb y = i) :
    ((cfg0.win 2).blk t).view.read (Elt F) (X (Pipeline.arrRef spec0 2)) y = X main_v22 i := by subst hi; rfl

/-- The query block of a point, read from the packed queries. -/
theorem q_blk (c : Dev nD) (t : Fin cfg0.N) (e : Fin 256) (q : Fin 1024) (i : S4x2048x8192.Idx)
    (h0 : (i 0).val = t.val / 64) (h1 : (i 1).val = t.val / 8 % 8 * 256 + e.val) (h2 : (i 2).val = t.val % 8 * 1024 + q.val) :
    (iblk m c 0 t : FVec F S1x256x1024 .bf16) (ix3 0 e q) = (V m c main_v11 : FVec F S4x2048x8192 .bf16) i := by
  have := lt_N t
  exact read0 (V m c) t (ix3 0 e q) i (by blk_ext [idx0])

/-- The key block of a point at any index. -/
theorem k_blk' (c : Dev nD) (t : Fin cfg0.N) (y : S1x8192x256.Idx) (i : S4x8192x2048.Idx)
    (h0 : (i 0).val = t.val / 64) (h1 : (i 1).val = (y 1).val) (h2 : (i 2).val = t.val / 8 % 8 * 256 + (y 2).val) :
    (iblk m c 1 t : FVec F S1x8192x256 .bf16) y = (V m c main_v17 : FVec F S4x8192x2048 .bf16) i := by
  have := lt_N t
  have hy : (y 0).val < 1 := (y 0).isLt
  exact read1 (V m c) t y i (by blk_ext [idx1])

/-- The value block of a point at any index. -/
theorem v_blk' (c : Dev nD) (t : Fin cfg0.N) (y : S1x8x144x1024.Idx) (i : S4x8x1152x1024.Idx)
    (h0 : (i 0).val = t.val / 64) (h1 : (i 1).val = (y 1).val) (h2 : (i 2).val = t.val / 8 % 8 * 144 + (y 2).val)
    (h3 : (i 3).val = (y 3).val) :
    (iblk m c 2 t : FVec F S1x8x144x1024 .bf16) y = (V m c main_v22 : FVec F S4x8x1152x1024 .bf16) i := by
  have := lt_N t
  have hy : (y 0).val < 1 := (y 0).isLt
  exact read2 (V m c) t y i (by blk_ext [idx2])

/-- Key rows of block `j`, read from the packed keys. -/
theorem k_blk (c : Dev nD) (t : Fin cfg0.N) (j : ℕ) (hj : j < 8) (k : Fin 1024) (e : Fin 256) (i : S4x8192x2048.Idx)
    (h0 : (i 0).val = t.val / 64) (h1 : (i 1).val = 1024 * j + k.val) (h2 : (i 2).val = t.val / 8 % 8 * 256 + e.val) :
    kRows (iblk m c 1 t) j (ix3 0 k e) = (V m c main_v17 : FVec F S4x8192x2048 .bf16) i := by
  unfold kRows
  refine k_blk' m c t _ i h0 ?_ ?_
  · show _ = 1024 * (j % 8) + k.val; omega
  · show _ = _ + (0 + e.val); omega

/-- Value rows of block `j`, read from the packed values. -/
theorem v_blk (c : Dev nD) (t : Fin cfg0.N) (j : ℕ) (hj : j < 8) (r : Fin 144) (k : Fin 1024) (i : S4x8x1152x1024.Idx)
    (h0 : (i 0).val = t.val / 64) (h1 : (i 1).val = j) (h2 : (i 2).val = t.val / 8 % 8 * 144 + r.val) (h3 : (i 3).val = k.val) :
    vBlk (iblk m c 2 t) j (ix4 0 0 r k) = (V m c main_v22 : FVec F S4x8x1152x1024 .bf16) i := by
  unfold vBlk
  refine v_blk' m c t _ i h0 ?_ ?_ ?_
  · show _ = j % 8 + 0; omega
  · show _ = _ + (0 + r.val); omega
  · show _ = 0 + k.val; omega

/-- The result's blocks cover it. -/
theorem covers3 : win0_3.Covers := by decide +kernel

/-- The result array is any array each point's block agrees with. -/
theorem result_of (c : Dev nD) (G : FVec F S4x1024x8192 .bf16)
    (h : ∀ (t : Fin cfg0.N) (r : Fin 128) (q : Fin 1024), oblk m c t (ix3 0 r q)
      = G (ix3 ⟨t.val / 64, by have := lt_N t; omega⟩ ⟨t.val / 8 % 8 * 128 + r.val, by omega⟩ ⟨t.val % 8 * 1024 + q.val, by omega⟩)) :
    (dats m 0 c).arrAt 3 cfg0.N = G := by
  refine (dats m 0 c).arrAt_eq_of_covers 3 G covers3 fun t hf y => ?_
  have ht := lt_N t
  have hy : (y 0).val < 1 := (y 0).isLt
  have hi : ((cfg0.win 3).blk t).view.emb y = (ix3 ⟨t.val / 64, by omega⟩ ⟨t.val / 8 % 8 * 128 + (y 1).val, by have : (y 1).val < 128 := (y 1).isLt; omega⟩
      ⟨t.val % 8 * 1024 + (y 2).val, by have : (y 2).val < 1024 := (y 2).isLt; omega⟩ : S4x1024x8192.Idx) := by
    blk_ext [idx3]
  have hx : (cfg0.win 3).xinj (cfg0.grid.coords t) y = (ix3 0 ⟨(y 1).val, (y 1).isLt⟩ ⟨(y 2).val, (y 2).isLt⟩ : S1x128x1024.Idx) := by
    blk_ext [idx3]
  rw [hi, hx, after3]
  exact h t _ _

end Cert.KernelIdeal.Attn

end
-- ==== Proof.Online.lean ====
module

public import Idealize.ShloMosaic.PureOps.Ideal
public import Mathlib.Analysis.SpecialFunctions.Pow.Real
public import Mathlib.Data.EReal.Operations
public import Mathlib.Algebra.BigOperators.Intervals

@[expose] public section

noncomputable section

namespace Cert.Online

open Idealize.ShloMosaic

/-! The mathematics of attention over the extended reals: weights are nonnegative real numbers, values any extended
real; a row is added up key block by key block under a running maximum, or all at once after its maximum. -/

/-- A nonnegative real factor goes into a sum of extended reals. -/
theorem mul_sum_real {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A sum of real numbers read as extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Neither infinity: a real number. -/
theorem real_of {x : EReal} (h1 : x ≠ ⊥) (h2 : x ≠ ⊤) : ∃ r : ℝ, x = r := ⟨x.toReal, (EReal.coe_toReal h2 h1).symm⟩

/-- The greatest of a start below ⊤ and of finitely many entries below ⊤, one of them above ⊥, is a real number. -/
theorem fold_real {n : ℕ} (m : EReal) (hm : m ≠ ⊤) (f : Fin n → EReal) (h1 : ∀ k, f k ≠ ⊤) (h2 : ∃ k, f k ≠ ⊥) :
    ∃ μ : ℝ, max m (Finset.univ.fold max ⊥ f) = μ := by
  have e : Finset.univ.fold max ⊥ f = Finset.univ.sup f := rfl
  rw [e]
  refine real_of ?_ ?_
  · obtain ⟨k, hk⟩ := h2
    intro h
    have h3 : f k ≤ max m (Finset.univ.sup f) := le_max_of_le_right (Finset.le_sup (f := f) (Finset.mem_univ k))
    rw [h] at h3
    exact hk (le_bot_iff.mp h3)
  · refine ne_of_lt (max_lt (lt_top_iff_ne_top.mpr hm) ?_)
    exact (Finset.sup_lt_iff (bot_lt_top)).mpr fun k _ => lt_top_iff_ne_top.mpr (h1 k)

/-- The power of two of a base-two score under a maximum: the exponential of the score, scaled. -/
theorem exp2_score (t μ : ℝ) : Ideal.exp2 (((t / Real.log 2 : ℝ) : EReal) - (μ : EReal)) = ((Real.exp t * (2 : ℝ) ^ (-μ) : ℝ) : EReal) := by
  have h2 : Real.log 2 ≠ 0 := ne_of_gt (Real.log_pos (by norm_num))
  rw [← EReal.coe_sub]
  show (((2 : ℝ) ^ (t / Real.log 2 - μ) : ℝ) : EReal) = _
  congr 1
  rw [sub_eq_add_neg, Real.rpow_add (by norm_num)]
  congr 1
  rw [Real.rpow_def_of_pos (by norm_num), mul_div_cancel₀ _ h2]

/-- A masked score has weight zero under any real maximum. -/
theorem exp2_bot (μ : ℝ) : Ideal.exp2 ((⊥ : EReal) - (μ : EReal)) = 0 := by
  rw [EReal.bot_sub]; rfl

/-- The running state of one row after `N` keys of weights `e` and values `v`: nothing yet, or a real maximum `μ` and
    the weighted sum scaled by `2 ^ (-μ)`. -/
def Inv (e : ℕ → ℝ) (v : ℕ → EReal) (N : ℕ) (m acc : EReal) : Prop :=
  (N = 0 ∧ m = ⊥ ∧ acc = 0) ∨ ∃ μ : ℝ, m = μ ∧ acc = ∑ j ∈ Finset.range N, ((e j * (2 : ℝ) ^ (-μ) : ℝ) : EReal) * v j

/-- One block of keys: the maximum is raised, the sum so far rescaled, the block's terms added. -/
theorem step {K : ℕ} {e : ℕ → ℝ} {v : ℕ → EReal} {N : ℕ} {m acc : EReal} (h : Inv e v N m acc) (s : Fin K → EReal)
    (hs : ∀ (k : Fin K) (μ : ℝ), Ideal.exp2 (s k - μ) = ((e (N + k) * (2 : ℝ) ^ (-μ) : ℝ) : EReal))
    (h1 : ∀ k, s k ≠ ⊤) (h2 : ∃ k, s k ≠ ⊥) :
    Inv e v (N + K) (max m (Finset.univ.fold max ⊥ s))
      (Ideal.exp2 (m - max m (Finset.univ.fold max ⊥ s)) * acc
        + ∑ k : Fin K, v (N + k) * Ideal.exp2 (s k - max m (Finset.univ.fold max ⊥ s))) := by
  have hm : m ≠ ⊤ := by
    rcases h with ⟨_, rfl, _⟩ | ⟨μ, rfl, _⟩
    · exact bot_ne_top
    · exact EReal.coe_ne_top μ
  obtain ⟨μ', hμ'⟩ := fold_real m hm s h1 h2
  rw [hμ']
  refine Or.inr ⟨μ', rfl, ?_⟩
  have hnew : ∑ k : Fin K, v (N + k) * Ideal.exp2 (s k - μ')
      = ∑ k ∈ Finset.range K, ((e (N + k) * (2 : ℝ) ^ (-μ') : ℝ) : EReal) * v (N + k) := by
    rw [Finset.sum_range]
    exact Finset.sum_congr rfl fun k _ => by rw [hs, mul_comm]
  rw [hnew, Finset.sum_range_add]
  congr 1
  rcases h with ⟨rfl, rfl, rfl⟩ | ⟨μ, rfl, rfl⟩
  · simp
  · have hx : Ideal.exp2 ((μ : EReal) - (μ' : EReal)) = (((2 : ℝ) ^ (μ - μ') : ℝ) : EReal) := by
      rw [← EReal.coe_sub]; rfl
    rw [hx, mul_sum_real _ _ (Real.rpow_nonneg (by norm_num) _)]
    refine Finset.sum_congr rfl fun j _ => ?_
    rw [← mul_assoc, ← EReal.coe_mul]
    congr 2
    rw [mul_left_comm, ← Real.rpow_add (by norm_num)]
    congr 2
    ring

/-- The division at the end: the sum over the values times the inverse of the sum of the weights is the sum of the
    values at normalised weights. -/
theorem finish {e : ℕ → ℝ} {v : ℕ → EReal} {N : ℕ} {m acc l : EReal} (h : Inv e v N m acc) (h1 : Inv e (fun _ => 1) N m l)
    (he : ∀ j, 0 ≤ e j) (hN : 0 < ∑ j ∈ Finset.range N, e j) :
    acc * Ideal.div 1 l = ∑ j ∈ Finset.range N, ((e j / ∑ i ∈ Finset.range N, e i : ℝ) : EReal) * v j := by
  have hN0 : N ≠ 0 := by rintro rfl; simp at hN
  rcases h with ⟨h0, _⟩ | ⟨μ, rfl, rfl⟩
  · exact absurd h0 hN0
  rcases h1 with ⟨h0, _⟩ | ⟨μ2, hm, rfl⟩
  · exact absurd h0 hN0
  obtain rfl : μ = μ2 := by exact_mod_cast hm
  set W := ∑ j ∈ Finset.range N, e j with hW
  have hp : (0 : ℝ) < (2 : ℝ) ^ (-μ) := Real.rpow_pos_of_pos (by norm_num) _
  have hl : ∑ j ∈ Finset.range N, ((e j * (2 : ℝ) ^ (-μ) : ℝ) : EReal) * 1 = ((W * (2 : ℝ) ^ (-μ) : ℝ) : EReal) := by
    simp only [mul_one]
    rw [sum_coe, ← Finset.sum_mul]
  have hne : ((W * (2 : ℝ) ^ (-μ) : ℝ) : EReal) ≠ 0 := by
    exact_mod_cast (mul_pos hN hp).ne'
  have hd : Ideal.div 1 ((W * (2 : ℝ) ^ (-μ) : ℝ) : EReal) = (((W * (2 : ℝ) ^ (-μ))⁻¹ : ℝ) : EReal) := by
    unfold Ideal.div
    rw [if_neg hne, one_mul, EReal.coe_inv]
  rw [hl, hd, mul_comm, mul_sum_real _ _ (inv_nonneg.mpr (mul_pos hN hp).le)]
  refine Finset.sum_congr rfl fun j _ => ?_
  rw [← mul_assoc, ← EReal.coe_mul]
  congr 2
  field_simp

/-- The causal weight of key `j` for query `q`: the exponential of the score, or zero for a later key. -/
def wgt (T : ℕ → ℝ) (q j : ℕ) : ℝ := if j ≤ q then Real.exp (T j) else 0

theorem wgt_nonneg (T : ℕ → ℝ) (q j : ℕ) : 0 ≤ wgt T q j := by
  unfold wgt; split
  · exact (Real.exp_pos _).le
  · exact le_rfl

/-- The sum of the weights is positive: key 0 is seen by every query. -/
theorem wgt_sum_pos (T : ℕ → ℝ) (q N : ℕ) (hN : 0 < N) : 0 < ∑ j ∈ Finset.range N, wgt T q j := by
  refine Finset.sum_pos' (fun j _ => wgt_nonneg T q j) ⟨0, Finset.mem_range.mpr hN, ?_⟩
  unfold wgt
  rw [if_pos (Nat.zero_le q)]
  exact Real.exp_pos _

/-- Causal attention of one query over `N` keys: the values at the normalised weights. -/
def att (N : ℕ) (T : ℕ → ℝ) (v : ℕ → EReal) (q : ℕ) : EReal :=
  ∑ j ∈ Finset.range N, ((wgt T q j / ∑ i ∈ Finset.range N, wgt T q i : ℝ) : EReal) * v j

/-- Keys past the query change nothing. -/
theorem att_mono (N M : ℕ) (T : ℕ → ℝ) (v : ℕ → EReal) (q : ℕ) (hq : q < N) (hM : N ≤ M) : att N T v q = att M T v q := by
  have hz : ∀ j, j ∉ Finset.range N → wgt T q j = 0 := fun j hj => by
    unfold wgt
    rw [if_neg]
    have := Finset.mem_range.not.mp hj
    omega
  have hsub : Finset.range N ⊆ Finset.range M := Finset.range_subset_range.mpr hM
  have hW : ∑ i ∈ Finset.range N, wgt T q i = ∑ i ∈ Finset.range M, wgt T q i :=
    Finset.sum_subset hsub fun j _ hj => hz j hj
  unfold att
  rw [hW]
  refine Finset.sum_subset hsub fun j _ hj => ?_
  rw [hz j hj, zero_div, EReal.coe_zero, zero_mul]

/-- The row computed all at once: masked scores less their maximum, exponentials, their sum, the quotients, the sum of
    the values at them. -/
theorem softmax_row {N : ℕ} (T : ℕ → ℝ) (v : ℕ → EReal) (q : ℕ) (hN : 0 < N) (s : Fin N → EReal)
    (hs : ∀ k : Fin N, s k = if (k : ℕ) ≤ q then ((T k : ℝ) : EReal) else ⊥) (M : EReal)
    (hM : M = max ⊥ (Finset.univ.fold max ⊥ s)) :
    ∑ k : Fin N, v k * Ideal.div (Ideal.exp (s k - M)) (∑ i : Fin N, Ideal.exp (s i - M)) = att N T v q := by
  obtain ⟨μ, hμ⟩ := fold_real ⊥ bot_ne_top s
    (fun k => by rw [hs]; split; exacts [EReal.coe_ne_top _, bot_ne_top])
    ⟨⟨0, hN⟩, by rw [hs, if_pos (Nat.zero_le q)]; exact EReal.coe_ne_bot _⟩
  rw [hμ] at hM
  subst hM
  have hp : (0 : ℝ) < Real.exp (-μ) := Real.exp_pos _
  have hx : ∀ k : Fin N, Ideal.exp (s k - μ) = ((wgt T q k * Real.exp (-μ) : ℝ) : EReal) := fun k => by
    rw [hs]
    unfold wgt
    split
    · rw [← EReal.coe_sub]
      show ((Real.exp (T k - μ) : ℝ) : EReal) = _
      rw [sub_eq_add_neg, Real.exp_add]
    · rw [EReal.bot_sub, zero_mul, EReal.coe_zero]; rfl
  have hpos := wgt_sum_pos T q N hN
  have hsum : ∑ i : Fin N, Ideal.exp (s i - μ) = (((∑ i ∈ Finset.range N, wgt T q i) * Real.exp (-μ) : ℝ) : EReal) := by
    simp only [hx]
    rw [sum_coe, Finset.sum_range, Finset.sum_mul]
  rw [hsum]
  unfold att
  rw [Finset.sum_range (f := fun j => ((wgt T q j / ∑ i ∈ Finset.range N, wgt T q i : ℝ) : EReal) * v j)]
  refine Finset.sum_congr rfl fun k _ => ?_
  rw [hx, mul_comm]
  congr 1
  unfold Ideal.div
  rw [if_neg (by exact_mod_cast (mul_pos hpos hp).ne'), ← EReal.coe_inv, ← EReal.coe_mul]
  congr 1
  field_simp

end Cert.Online

end
-- ==== Proof.Point.lean ====
module

public import proofs.«01_k».proof.Proof.Body
public import proofs.«01_k».proof.Proof.Online
public import Idealize.ShloMosaic.Lib.Pointwise

@[expose] public section

set_option maxRecDepth 16384

noncomputable section

namespace Cert.KernelIdeal.Attn

open Idealize.ShloMosaic
open Cert.KernelIdeal.Gen
open Cert.Online

/-- The word of minus infinity is the least extended real. -/
theorem word_bot : Ideal.ofBits FTy.f32 0xFF800000#32 = ⊥ := by simp [Ideal.ofBits, Ideal.ieee]

/-- The causal mask inside a diagonal block: a key row at most the query's column. -/
theorem mask_sel (k q : ℕ) (hk : k < 8192) (hq : q < 8192) (a b : EReal) :
    Scalar.select (IntOp.cmpi CmpIPredicate.sle (BitVec.ofNat 32 k) (BitVec.ofNat 32 q)) a b = if k ≤ q then a else b := by
  have e : (BitVec.ofNat 32 k).sle (BitVec.ofNat 32 q) = decide (k ≤ q) := by
    rw [BitVec.sle_eq_decide, BitVec.toInt_eq_toNat_of_lt, BitVec.toInt_eq_toNat_of_lt]
    · simp [BitVec.toNat_ofNat, Nat.mod_eq_of_lt (show k < 4294967296 by omega), Nat.mod_eq_of_lt (show q < 4294967296 by omega)]
    · simp [BitVec.toNat_ofNat]; omega
    · simp [BitVec.toNat_ofNat]; omega
  unfold Scalar.select IntOp.cmpi
  simp only [e]
  by_cases h : k ≤ q <;> simp [h]

/-- A block's scores: keys against queries, over the 256 features. -/
theorem sc_apply (x0 : FVec Ideal S1x256x1024 .bf16) (x1 : FVec Ideal S1x8192x256 .bf16) (j : ℕ) (k q : Fin 1024) :
    sc x0 x1 j (ix2 k q) = ∑ e : Fin 256, kRows x1 j (ix3 0 k e) * x0 (ix3 0 e q) := by
  unfold sc
  generalize kRows x1 j = y
  pointwise [k0_pay20]

/-- The maximum after a block. -/
theorem max_apply (m : FVec Ideal S1x1024 .f32) (s : FVec Ideal S1024x1024 .f32) (q : Fin 1024) :
    k0_pay8 m s (ix2 0 q) = max (m (ix2 0 q)) (Finset.univ.fold max ⊥ fun k : Fin 1024 => s (ix2 k q)) := by
  pointwise [k0_pay8]
  rw [word_bot]

/-- The sums after a block. -/
theorem acc_apply (m : FVec Ideal S1x1024 .f32) (a : FVec Ideal S144x1024 .f32) (s : FVec Ideal S1024x1024 .f32)
    (v : FVec Ideal S1x1x144x1024 .bf16) (r : Fin 144) (q : Fin 1024) :
    k0_pay9 m a s v (ix2 r q) = Ideal.exp2 (m (ix2 0 q) - k0_pay8 m s (ix2 0 q)) * a (ix2 r q)
      + ∑ k : Fin 1024, v (ix4 0 0 r k) * Ideal.exp2 (s (ix2 k q) - k0_pay8 m s (ix2 0 q)) := by
  unfold k0_pay9
  generalize k0_pay8 m s = mm
  pointwise []
  rfl

/-- The diagonal block's scores, masked. -/
def msk (s : FVec Ideal S1024x1024 .f32) : FVec Ideal S1024x1024 .f32 :=
  select (cmpi .sle (iota .tc S1024x1024 32 [0] iota_S1024x1024_d0_w32) (iota .tc S1024x1024 32 [1] iota_S1024x1024_d1_w32)) s
    (broadcast S1024x1024 (Scalar.ofBits .f32 0xFF800000#32))

theorem msk_apply (s : FVec Ideal S1024x1024 .f32) (k q : Fin 1024) :
    msk s (ix2 k q) = if (k : ℕ) ≤ (q : ℕ) then s (ix2 k q) else ⊥ := by
  pointwise [msk]
  rw [word_bot]
  exact mask_sel k q (by omega) (by omega) _ _

/-- The masked step is the plain step on masked scores. -/
theorem diag_eq (m : FVec Ideal S1x1024 .f32) (a : FVec Ideal S144x1024 .f32) (s : FVec Ideal S1024x1024 .f32)
    (v : FVec Ideal S1x1x144x1024 .bf16) : k0_pay5 m a s v = k0_pay9 m a (msk s) v := rfl

/-- The division at the end. -/
theorem out_apply (a : FVec Ideal S144x1024 .f32) (r : Fin 128) (q : Fin 1024) :
    k0_pay6 a (ix3 0 r q) = a (ix2 ⟨r, by omega⟩ q) * Ideal.div 1 (a (ix2 128 q)) := by
  pointwise [k0_pay6]

theorem init_m (q : Fin 1024) : k0_pay21 (F := Ideal) (ix2 0 q) = ⊥ := by
  pointwise [k0_pay21]
  exact word_bot

theorem init_a (r : Fin 144) (q : Fin 1024) : k0_pay22 (F := Ideal) (ix2 r q) = 0 := by
  pointwise [k0_pay22]

section Block

variable (x0 : FVec Ideal S1x256x1024 .bf16) (x1 : FVec Ideal S1x8192x256 .bf16) (x2 : FVec Ideal S1x8x144x1024 .bf16)
  (T : ℕ → ℝ) (v : Fin 144 → ℕ → EReal) (q : Fin 1024)

/-- After `n` whole blocks, all of them before the query's own, the state of query column `q`. -/
theorem st_inv (n : ℕ) (hn : n < 8)
    (hs : ∀ j < 8, ∀ k : Fin 1024, sc x0 x1 j (ix2 k q) = ((T (1024 * j + k) / Real.log 2 : ℝ) : EReal))
    (hv : ∀ j < 8, ∀ (r : Fin 144) (k : Fin 1024), vBlk x2 j (ix4 0 0 r k) = v r (1024 * j + k)) (r : Fin 144) (i : ℕ) (hi : i ≤ n) :
    Inv (wgt T (1024 * n + q)) (v r) (1024 * i) ((st x0 x1 x2 i).1 (ix2 0 q)) ((st x0 x1 x2 i).2 (ix2 r q)) := by
  induction i with
  | zero => exact Or.inl ⟨rfl, init_m q, init_a r q⟩
  | succ i ih =>
    have h := step (ih (by omega)) (fun k : Fin 1024 => sc x0 x1 i (ix2 k q))
      (fun k μ => by
        rw [hs i (by omega), exp2_score]
        congr 2
        unfold wgt
        rw [if_pos]
        have := k.isLt
        omega)
      (fun k => by rw [hs i (by omega)]; exact EReal.coe_ne_top _)
      ⟨0, by rw [hs i (by omega)]; exact EReal.coe_ne_bot _⟩
    unfold st
    dsimp only
    rw [acc_apply, max_apply]
    simp only [hv i (by omega)]
    exact h

/-- The block written: causal attention of each query of the block over all the keys. -/
theorem outBlk_apply (n : ℕ) (hn : n < 8) (r : Fin 128)
    (hs : ∀ j < 8, ∀ k : Fin 1024, sc x0 x1 j (ix2 k q) = ((T (1024 * j + k) / Real.log 2 : ℝ) : EReal))
    (hv : ∀ j < 8, ∀ (r : Fin 144) (k : Fin 1024), vBlk x2 j (ix4 0 0 r k) = v r (1024 * j + k)) (h1 : v 128 = fun _ => 1) :
    outBlk x0 x1 x2 n (ix3 0 r q) = att 8192 T (v ⟨r, by omega⟩) (1024 * n + q) := by
  have hd : ∀ r : Fin 144, Inv (wgt T (1024 * n + q)) (v r) (1024 * n + 1024)
      (k0_pay8 (st x0 x1 x2 n).1 (msk (sc x0 x1 n)) (ix2 0 q))
      (k0_pay9 (st x0 x1 x2 n).1 (st x0 x1 x2 n).2 (msk (sc x0 x1 n)) (vBlk x2 n) (ix2 r q)) := fun r => by
    have h := step (st_inv x0 x1 x2 T v q n hn hs hv r n le_rfl) (fun k : Fin 1024 => msk (sc x0 x1 n) (ix2 k q))
      (fun k μ => by
        rw [msk_apply, hs n hn]
        unfold wgt
        by_cases hk : (k : ℕ) ≤ (q : ℕ)
        · rw [if_pos hk, if_pos (by omega), exp2_score]
        · rw [if_neg hk, if_neg (by omega), exp2_bot, zero_mul, EReal.coe_zero])
      (fun k => by
        rw [msk_apply, hs n hn]
        split
        exacts [EReal.coe_ne_top _, bot_ne_top])
      ⟨⟨0, by omega⟩, by
        rw [msk_apply, hs n hn, if_pos (show ((⟨0, by omega⟩ : Fin 1024) : ℕ) ≤ q from Nat.zero_le _)]
        exact EReal.coe_ne_bot _⟩
    rw [acc_apply, max_apply]
    simp only [hv n hn]
    exact h
  have h128 := hd 128
  rw [h1] at h128
  unfold outBlk
  rw [diag_eq, out_apply, finish (hd ⟨r, by omega⟩) h128 (wgt_nonneg T _) (wgt_sum_pos T _ _ (by omega))]
  exact att_mono _ _ _ _ _ (by omega) (by omega)

end Block

end Cert.KernelIdeal.Attn

end
-- ==== Proof.HostK.lean ====
module

public import proofs.«01_k».proof.Proof.Gen.KernelIdeal.Frame
public import Idealize.ShloMosaic.Lib.Pointwise
public import Idealize.ShloMosaic.Lib.StableHlo.ReadAt

@[expose] public section

set_option maxRecDepth 16384

noncomputable section

namespace Cert.KernelIdeal.Attn

open Idealize.ShloMosaic Idealize.ShloMosaic.TcCoe
open Cert.KernelIdeal.Gen

variable (m : (ℓ : Loc nD τ sig) → Buf (Elt Ideal) ℓ) (c : Dev nD)

/-- The argument arrays: queries without position, -/
def arg0 : FVec Ideal S4x8192x8x128 .f32 := m ((c : Thread nD τ).loc main_arg0)
/-- queries with rotary position, -/
def arg1 : FVec Ideal S4x8192x8x64 .f32 := m ((c : Thread nD τ).loc main_arg1)
/-- keys without position, -/
def arg2 : FVec Ideal S4x8192x8x128 .f32 := m ((c : Thread nD τ).loc main_arg2)
/-- the keys' shared rotary part, -/
def arg3 : FVec Ideal S4x8192x64 .f32 := m ((c : Thread nD τ).loc main_arg3)
/-- and the values. -/
def arg4 : FVec Ideal S4x8192x8x128 .f32 := m ((c : Thread nD τ).loc main_arg4)

/-- The queries' scale as the host computes it. -/
def qscale : EReal := Ideal.div 1 (Ideal.sqrt (Ideal.ofBits .f32 0x43400000#32) * Ideal.log (Ideal.ofBits .f32 0x40000000#32))

/-- The packed queries at head `h`, feature `e` and position `s`. -/
theorem q_at (b : Fin 4) (i : Fin 2048) (s : Fin 8192) :
    (V m c main_v11 : FVec Ideal S4x2048x8192 .bf16) (ix3 b i s)
      = (if h : i.val % 256 < 192 then
          (if h' : i.val % 256 < 128 then arg0 m c (ix4 b s ⟨i.val / 256, by omega⟩ ⟨i.val % 256, h'⟩) * qscale
            else arg1 m c (ix4 b s ⟨i.val / 256, by omega⟩ ⟨i.val % 256 - 128, by omega⟩) * qscale)
        else 0 : EReal) := by
  unfold V
  after_reads_at
  split
  · after_reads_at
    split
    · after_reads_at
      rfl
    · after_reads_at
      rfl
  · after_reads_at

/-- The packed keys. -/
theorem k_at (b : Fin 4) (i : Fin 2048) (s : Fin 8192) :
    (V m c main_v17 : FVec Ideal S4x8192x2048 .bf16) (ix3 b s i)
      = (if h : i.val % 256 < 128 then arg2 m c (ix4 b s ⟨i.val / 256, by omega⟩ ⟨i.val % 256, h⟩)
        else if h : i.val % 256 - 128 < 64 then arg3 m c (ix3 b s ⟨i.val % 256 - 128, h⟩) else 0 : EReal) := by
  unfold V
  after_reads_at
  split
  · after_reads_at
    rfl
  · split
    · after_reads_at
      rfl
    · after_reads_at

/-- The packed values, and the rows of ones beside them. -/
theorem v_at (b : Fin 4) (j : Fin 8) (i : Fin 1152) (s : Fin 1024) :
    (V m c main_v22 : FVec Ideal S4x8x1152x1024 .bf16) (ix4 b j i s)
      = (if h : i.val % 144 < 128 then arg4 m c (ix4 b ⟨j.val * 1024 + s.val, by omega⟩ ⟨i.val / 144, by omega⟩ ⟨i.val % 144, h⟩)
        else 1 : EReal) := by
  unfold V
  after_reads_at
  split
  · after_reads_at
    rfl
  · after_reads_at

end Cert.KernelIdeal.Attn

end
-- ==== Proof.Score.lean ====
module

public import proofs.«01_k».proof.Proof.Online
public import Idealize.ShloMosaic.Lib.Pointwise

@[expose] public section

noncomputable section

namespace Cert.Online

open Idealize.ShloMosaic

/-- A query's score against a key: the product of the parts without position, plus the product of the rotary parts,
    over the square root of the 192 features. -/
def score (qn kn : Fin 128 → EReal) (qr kr : Fin 64 → EReal) : ℝ :=
  ((∑ e, (kn e).toReal * (qn e).toReal) + ∑ e, (kr e).toReal * (qr e).toReal) * (1 / Real.sqrt 192)

/-- The word of the number 192. -/
theorem word_192 : Ideal.ofBits FTy.f32 0x43400000#32 = ((192 : ℝ) : EReal) := by
  simp [Ideal.ofBits, Ideal.ieee, -EReal.coe_mul]; norm_num

/-- The word of the number 2. -/
theorem word_two : Ideal.ofBits FTy.f32 0x40000000#32 = ((2 : ℝ) : EReal) := by
  simp [Ideal.ofBits, Ideal.ieee, -EReal.coe_mul]; norm_num

/-- The scale multiplied into the packed queries. -/
theorem scale_real : Ideal.div 1 (Ideal.sqrt (Ideal.ofBits .f32 0x43400000#32) * Ideal.log (Ideal.ofBits .f32 0x40000000#32))
    = ((1 / (Real.sqrt 192 * Real.log 2) : ℝ) : EReal) := by
  rw [word_192, word_two, Ideal.sqrt_coe, Ideal.log_coe, if_neg (by norm_num), if_neg (by norm_num), ← EReal.coe_mul, Ideal.div_coe, one_mul]
  exact mul_ne_zero (Real.sqrt_pos.2 (by norm_num)).ne' (Real.log_pos one_lt_two).ne'

/-- The scale of the plain scores. -/
theorem scale_plain : Ideal.div 1 (Ideal.sqrt (Ideal.ofBits .f32 0x43400000#32)) = ((1 / Real.sqrt 192 : ℝ) : EReal) := by
  rw [word_192, Ideal.sqrt_coe, if_neg (by norm_num), Ideal.div_coe (Real.sqrt_pos.2 (by norm_num)).ne', one_mul]

/-- The packed features: keys against scaled queries with zeros in the last 64 places give the score over `log 2`. -/
theorem packed (qn kn : Fin 128 → EReal) (qr kr : Fin 64 → EReal) (s : ℝ)
    (h0 : ∀ e, qn e = ((qn e).toReal : EReal)) (h1 : ∀ e, qr e = ((qr e).toReal : EReal))
    (h2 : ∀ e, kn e = ((kn e).toReal : EReal)) (h3 : ∀ e, kr e = ((kr e).toReal : EReal)) (f : Fin 256 → EReal)
    (fn : ∀ e : Fin 128, f (Fin.castAdd 128 e) = kn e * (qn e * (s : EReal)))
    (fr : ∀ e : Fin 64, f (Fin.natAdd 128 (Fin.castAdd 64 e)) = kr e * (qr e * (s : EReal)))
    (fz : ∀ e : Fin 64, f (Fin.natAdd 128 (Fin.natAdd 64 e)) = 0)
    (hs : s = 1 / (Real.sqrt 192 * Real.log 2)) :
    ∑ e, f e = ((score qn kn qr kr / Real.log 2 : ℝ) : EReal) := by
  have e1 : ∑ e, f e = (∑ e : Fin 128, f (Fin.castAdd 128 e)) + ((∑ e : Fin 64, f (Fin.natAdd 128 (Fin.castAdd 64 e))) + ∑ e : Fin 64, f (Fin.natAdd 128 (Fin.natAdd 64 e))) := by
    rw [show (∑ e, f e) = _ from Fin.sum_univ_add (a := 128) (b := 128) f]
    congr 1
    exact Fin.sum_univ_add (a := 64) (b := 64) _
  have a : ∀ e : Fin 128, f (Fin.castAdd 128 e) = (((kn e).toReal * ((qn e).toReal * s) : ℝ) : EReal) := fun e => by
    rw [fn, EReal.coe_mul, EReal.coe_mul, ← h0, ← h2]
  have b : ∀ e : Fin 64, f (Fin.natAdd 128 (Fin.castAdd 64 e)) = (((kr e).toReal * ((qr e).toReal * s) : ℝ) : EReal) := fun e => by
    rw [fr, EReal.coe_mul, EReal.coe_mul, ← h1, ← h3]
  rw [e1, Finset.sum_congr rfl fun e _ => a e, Finset.sum_congr rfl fun e _ => b e, Finset.sum_congr rfl fun e _ => fz e,
    Finset.sum_const_zero, add_zero, sum_coe, sum_coe, ← EReal.coe_add, EReal.coe_eq_coe_iff]
  unfold score
  have l : Real.log 2 ≠ 0 := (Real.log_pos one_lt_two).ne'
  have r : Real.sqrt 192 ≠ 0 := (Real.sqrt_pos.2 (by norm_num)).ne'
  simp only [← mul_assoc]
  rw [← Finset.sum_mul, ← Finset.sum_mul, hs]
  field_simp

/-- The plain scores. -/
theorem plain (qn kn : Fin 128 → EReal) (qr kr : Fin 64 → EReal)
    (h0 : ∀ e, qn e = ((qn e).toReal : EReal)) (h1 : ∀ e, qr e = ((qr e).toReal : EReal))
    (h2 : ∀ e, kn e = ((kn e).toReal : EReal)) (h3 : ∀ e, kr e = ((kr e).toReal : EReal)) :
    ((∑ e, qn e * kn e) + ∑ e, kr e * qr e) * Ideal.div 1 (Ideal.sqrt (Ideal.ofBits .f32 0x43400000#32)) = (score qn kn qr kr : EReal) := by
  have a : ∀ e : Fin 128, qn e * kn e = (((kn e).toReal * (qn e).toReal : ℝ) : EReal) := fun e => by
    rw [EReal.coe_mul, ← h0, ← h2, mul_comm]
  have b : ∀ e : Fin 64, kr e * qr e = (((kr e).toReal * (qr e).toReal : ℝ) : EReal) := fun e => by
    rw [EReal.coe_mul, ← h1, ← h3]
  rw [Finset.sum_congr rfl fun e _ => a e, Finset.sum_congr rfl fun e _ => b e, sum_coe, sum_coe, scale_plain,
    ← EReal.coe_add, ← EReal.coe_mul]
  rfl

/-- The queries without and with position, the keys without and the keys' shared part with position, and the values. -/
abbrev QN : Shape := ⟨4, ![4, 8192, 8, 128]⟩
/-- The rotary queries' shape. -/
abbrev QR : Shape := ⟨4, ![4, 8192, 8, 64]⟩
/-- The rotary keys' shape. -/
abbrev KR : Shape := ⟨3, ![4, 8192, 64]⟩

variable (a0 : FVec Ideal QN .f32) (a1 : FVec Ideal QR .f32) (a2 : FVec Ideal QN .f32) (a3 : FVec Ideal KR .f32) (a4 : FVec Ideal QN .f32)

/-- The score of the query at position `s` against the key at position `j` in head `h` of batch entry `b`. -/
def scoreAt (b : Fin 4) (h : Fin 8) (s : Fin 8192) (j : ℕ) : ℝ :=
  score (fun e => a0 (ix4 b s h e)) (fun e => a2 (ix4 b ⟨j % 8192, Nat.mod_lt _ (by norm_num)⟩ h e))
    (fun e => a1 (ix4 b s h e)) (fun e => a3 (ix3 b ⟨j % 8192, Nat.mod_lt _ (by norm_num)⟩ e))

/-- The value at position `j`, head `h`, feature `r`. -/
def valAt (b : Fin 4) (h : Fin 8) (r : Fin 128) (j : ℕ) : EReal := a4 (ix4 b ⟨j % 8192, Nat.mod_lt _ (by norm_num)⟩ h r)

/-- Causal attention at one output element. -/
def attnAt (b : Fin 4) (h : Fin 8) (r : Fin 128) (s : Fin 8192) : EReal :=
  att 8192 (scoreAt a0 a1 a2 a3 b h s) (valAt a4 b h r) s

end Cert.Online

end
-- ==== Proof.Final.lean ====
module

public import proofs.«01_k».proof.Proof.Tile
public import proofs.«01_k».proof.Proof.Point
public import proofs.«01_k».proof.Proof.HostK
public import proofs.«01_k».proof.Proof.Score
public import proofs.«01_k».proof.Proof.Gen.Pre_finite
public import Idealize.ShloMosaic.Lib.ReduceAll

@[expose] public section

set_option maxRecDepth 16384

noncomputable section

namespace Cert.KernelIdeal.Attn

open Idealize.ShloMosaic Idealize.ShloMosaic.TcCoe
open Cert.KernelIdeal.Gen
open Cert.Online

/-- A number whose absolute value is below infinity is a real number. -/
theorem real_of_bit (x : EReal) (h : Ideal.cmp .olt (max x (-x)) (Ideal.ofBits .f32 0x7F800000#32) = 1#1) :
    x = (x.toReal : EReal) := by
  have htop : Ideal.ofBits .f32 0x7F800000#32 = ⊤ := by simp [Ideal.ofBits, Ideal.ieee]
  rw [htop] at h
  have h' : max x (-x) < ⊤ := by
    by_contra hc
    simp [Ideal.cmp, hc] at h
  rw [max_lt_iff] at h'
  refine (EReal.coe_toReal h'.1.ne fun e => ?_).symm
  rw [e] at h'
  simp at h'

/-- One scalar index. -/
instance : Subsingleton Cert.Pre_finite.S_.Idx := ⟨fun a b => funext fun i => i.elim0⟩

/-- A conjunction of two bits that is 1 has both. -/
theorem and_bits {a b : BitVec 1} (h : IntOp.andi a b = 1#1) : a = 1#1 ∧ b = 1#1 := by
  revert a b; decide

open Cert.Pre_finite in
/-- The precondition read: every query and key entry is a real number. -/
theorem finite_args (a0 : FVec Ideal QN .f32) (a1 : FVec Ideal QR .f32) (a2 : FVec Ideal QN .f32) (a3 : FVec Ideal KR .f32) (a4 : FVec Ideal QN .f32)
    (j : Cert.Pre_finite.S_.Idx) (h : Cert.Pre_finite.fn a0 a1 a2 a3 a4 j = 1#1) :
    (∀ i, a0 i = ((a0 i).toReal : EReal)) ∧ (∀ i, a1 i = ((a1 i).toReal : EReal)) ∧ (∀ i, a2 i = ((a2 i).toReal : EReal))
      ∧ ∀ i, a3 i = ((a3 i).toReal : EReal) := by
  dsimp only [Cert.Pre_finite.fn, Cert.Pre_finite.fn_part1] at h
  obtain ⟨h, h3⟩ := and_bits h
  obtain ⟨h, h2⟩ := and_bits h
  obtain ⟨h0, h1⟩ := and_bits h
  exact ⟨fun i => real_of_bit _ (Host.reduce_andi_all _ _ _ _ j h0 i), fun i => real_of_bit _ (Host.reduce_andi_all _ _ _ _ j h1 i),
    fun i => real_of_bit _ (Host.reduce_andi_all _ _ _ _ j h2 i), fun i => real_of_bit _ (Host.reduce_andi_all _ _ _ _ j h3 i)⟩

variable (m : (ℓ : Loc nD τ sig) → Buf (Elt Ideal) ℓ) (c : Dev nD)

/-- The array of attention outputs, heads and features by positions. -/
def attnArr : FVec Ideal S4x1024x8192 .bf16 := fun i =>
  attnAt (arg0 m c) (arg1 m c) (arg2 m c) (arg3 m c) (arg4 m c) ⟨(i 0).val, (i 0).isLt⟩
    ⟨(i 1).val / 128, by have : (i 1).val < 1024 := (i 1).isLt; omega⟩ ⟨(i 1).val % 128, by omega⟩ ⟨(i 2).val, (i 2).isLt⟩

/-- A point's scores are the plain scores over `log 2`. -/
theorem score_blk (h0 : ∀ i, arg0 m c i = ((arg0 m c i).toReal : EReal)) (h1 : ∀ i, arg1 m c i = ((arg1 m c i).toReal : EReal))
    (h2 : ∀ i, arg2 m c i = ((arg2 m c i).toReal : EReal)) (h3 : ∀ i, arg3 m c i = ((arg3 m c i).toReal : EReal))
    (t : Fin cfg0.N) (j : ℕ) (hj : j < 8) (k q : Fin 1024) (b : Fin 4) (h : Fin 8) (s : Fin 8192) (hb : b.val = t.val / 64)
    (hh : h.val = t.val / 8 % 8) (hs : s.val = t.val % 8 * 1024 + q.val) :
    (sc (F := Ideal) (iblk m c 0 t) (iblk m c 1 t) j (ix2 k q) : EReal)
      = ((scoreAt (arg0 m c) (arg1 m c) (arg2 m c) (arg3 m c) b h s (1024 * j + k) / Real.log 2 : ℝ) : EReal) := by
  rw [sc_apply]
  unfold scoreAt
  have hm : (1024 * j + k.val) % 8192 = 1024 * j + k.val := Nat.mod_eq_of_lt (by omega)
  have hK : ∀ e : Fin 256, kRows (F := Ideal) (iblk m c 1 t) j (ix3 0 k e) = (V m c main_v17 : FVec Ideal S4x8192x2048 .bf16)
      (ix3 b ⟨(1024 * j + k.val) % 8192, by omega⟩ ⟨h.val * 256 + e.val, by omega⟩) := fun e =>
    k_blk m c t j hj k e (ix3 b ⟨(1024 * j + k.val) % 8192, by omega⟩ ⟨h.val * 256 + e.val, by omega⟩) hb hm (congrArg (fun x => x * 256 + e.val) hh)
  have hQ : ∀ e : Fin 256, (iblk m c 0 t : FVec Ideal S1x256x1024 .bf16) (ix3 0 e q) = (V m c main_v11 : FVec Ideal S4x2048x8192 .bf16)
      (ix3 b ⟨h.val * 256 + e.val, by omega⟩ s) := fun e =>
    q_blk m c t e q (ix3 b ⟨h.val * 256 + e.val, by omega⟩ s) hb (congrArg (fun x => x * 256 + e.val) hh) hs
  refine packed _ _ _ _ _ (fun _ => h0 _) (fun _ => h1 _) (fun _ => h2 _) (fun _ => h3 _) _ ?_ ?_ ?_ rfl
  · intro e
    rw [hK, hQ, k_at, q_at]
    have e1 : (h.val * 256 + e.val) % 256 = e.val := by omega
    have e2 : (h.val * 256 + e.val) / 256 = h.val := by omega
    simp only [Fin.val_castAdd, e1, e2]
    rw [dif_pos e.isLt, dif_pos (by omega), dif_pos e.isLt]
    unfold qscale
    rw [scale_real]
  · intro e
    rw [hK, hQ, k_at, q_at]
    have e1 : (h.val * 256 + (128 + e.val)) % 256 = 128 + e.val := by omega
    have e2 : (h.val * 256 + (128 + e.val)) / 256 = h.val := by omega
    have e3 : 128 + e.val - 128 = e.val := by omega
    simp only [Fin.val_castAdd, Fin.val_natAdd, e1, e2, e3]
    rw [dif_neg (by omega), dif_pos e.isLt, dif_pos (by omega), dif_neg (by omega)]
    unfold qscale
    rw [scale_real]
  · intro e
    rw [hK, hQ, k_at, q_at]
    have e1 : (h.val * 256 + (128 + (64 + e.val))) % 256 = 192 + e.val := by omega
    simp only [Fin.val_natAdd, e1]
    rw [dif_neg (by omega), dif_neg (by omega), zero_mul]

/-- A point's block of the result. -/
theorem oblk_at (h0 : ∀ i, arg0 m c i = ((arg0 m c i).toReal : EReal)) (h1 : ∀ i, arg1 m c i = ((arg1 m c i).toReal : EReal))
    (h2 : ∀ i, arg2 m c i = ((arg2 m c i).toReal : EReal)) (h3 : ∀ i, arg3 m c i = ((arg3 m c i).toReal : EReal))
    (t : Fin cfg0.N) (r : Fin 128) (q : Fin 1024) (b : Fin 4) (h : Fin 8) (s : Fin 8192) (hb : b.val = t.val / 64)
    (hh : h.val = t.val / 8 % 8) (hs : s.val = t.val % 8 * 1024 + q.val) :
    (oblk (F := Ideal) m c t (ix3 0 r q) : EReal) = attnAt (arg0 m c) (arg1 m c) (arg2 m c) (arg3 m c) (arg4 m c) b h r s := by
  unfold oblk attnAt
  have hc : ((grid0.coords t) 2).val = t.val % 8 := by rw [crd2]; omega
  rw [hc, outBlk_apply (iblk m c 0 t) (iblk m c 1 t) (iblk m c 2 t) (scoreAt (arg0 m c) (arg1 m c) (arg2 m c) (arg3 m c) b h s)
    (fun r' => if hr : r'.val < 128 then valAt (arg4 m c) b h ⟨r'.val, hr⟩ else fun _ => 1) q (t.val % 8) (by omega) r
    (fun j hj k => score_blk m c h0 h1 h2 h3 t j hj k q b h s hb hh hs) ?_ (by simp)]
  · rw [hs, show 1024 * (t.val % 8) + q.val = t.val % 8 * 1024 + q.val by omega]
    rw [dif_pos r.isLt]
  · intro j hj r' k
    rw [v_blk m c t j hj r' k (ix4 b ⟨j, hj⟩ ⟨h.val * 144 + r'.val, by omega⟩ k) hb rfl (congrArg (fun x => x * 144 + r'.val) hh) rfl, v_at]
    have e1 : (h.val * 144 + r'.val) % 144 = r'.val := by omega
    have e2 : (h.val * 144 + r'.val) / 144 = h.val := by omega
    have e3 : (1024 * j + k.val) % 8192 = j * 1024 + k.val := by omega
    simp only [e1, e2]
    split
    · unfold valAt
      simp only [e3]
    · rfl

/-- The kernel's result is the attention of its arguments. -/
theorem result (h0 : ∀ i, arg0 m c i = ((arg0 m c i).toReal : EReal)) (h1 : ∀ i, arg1 m c i = ((arg1 m c i).toReal : EReal))
    (h2 : ∀ i, arg2 m c i = ((arg2 m c i).toReal : EReal)) (h3 : ∀ i, arg3 m c i = ((arg3 m c i).toReal : EReal)) :
    (dats m 0 c).arrAt 3 cfg0.N = attnArr m c := by
  refine result_of m c (attnArr m c) fun t r q => ?_
  have ht := lt_N t
  refine (oblk_at m c h0 h1 h2 h3 t r q ⟨t.val / 64, by omega⟩ ⟨t.val / 8 % 8, by omega⟩ ⟨t.val % 8 * 1024 + q.val, by omega⟩ rfl rfl rfl).trans ?_
  unfold attnArr
  have e1 : (t.val / 8 % 8 * 128 + r.val) / 128 = t.val / 8 % 8 := by omega
  have e2 : (t.val / 8 % 8 * 128 + r.val) % 128 = r.val := by omega
  congr 1
  · exact Fin.ext e1.symm
  · exact Fin.ext e2.symm

end Cert.KernelIdeal.Attn

end
-- ==== Proof.RefVal.lean ====
module

public import proofs.«01_k».proof.Proof.Gen.ReferenceIdeal.Run
public import proofs.«01_k».proof.Proof.Point
public import proofs.«01_k».proof.Proof.Score
public import Idealize.ShloMosaic.Lib.Pointwise

@[expose] public section

set_option maxRecDepth 16384

noncomputable section

namespace Cert.ReferenceIdeal.Attn

open Idealize.ShloMosaic Idealize.ShloMosaic.TcCoe
open Cert.ReferenceIdeal.Gen
open Cert.Online

variable (a0 : FVec Ideal QN .f32) (a1 : FVec Ideal QR .f32) (a2 : FVec Ideal QN .f32) (a3 : FVec Ideal KR .f32) (a4 : FVec Ideal QN .f32)

/-- A masked score as the reference writes it. -/
def ms (b : Fin 4) (h : Fin 8) (s x : Fin 8192) : EReal :=
  Scalar.select (IntOp.cmpi CmpIPredicate.sle (BitVec.ofNat 32 x.val) (BitVec.ofNat 32 s.val))
    (((∑ e, a0 (ix4 b s h e) * a2 (ix4 b x h e)) + ∑ e, a3 (ix3 b x e) * a1 (ix4 b s h e))
      * Ideal.div 1 (Ideal.sqrt (Ideal.ofBits FTy.f32 0x43400000#32)))
    (Ideal.ofBits FTy.f32 0xFF800000#32)

/-- Masking puts minus infinity at the keys after the query. -/
theorem ms_eq (h0 : ∀ i, a0 i = ((a0 i).toReal : EReal)) (h1 : ∀ i, a1 i = ((a1 i).toReal : EReal))
    (h2 : ∀ i, a2 i = ((a2 i).toReal : EReal)) (h3 : ∀ i, a3 i = ((a3 i).toReal : EReal)) (b : Fin 4) (h : Fin 8) (s x : Fin 8192) :
    ms a0 a1 a2 a3 b h s x = if (x : ℕ) ≤ s then (scoreAt a0 a1 a2 a3 b h s x : EReal) else ⊥ := by
  unfold ms scoreAt
  rw [Cert.KernelIdeal.Attn.mask_sel _ _ x.isLt s.isLt, Cert.KernelIdeal.Attn.word_bot]
  have hx : (⟨(x : ℕ) % 8192, Nat.mod_lt _ (by norm_num)⟩ : Fin 8192) = x := Fin.ext (Nat.mod_eq_of_lt x.isLt)
  rw [hx, ← plain (fun e => a0 (ix4 b s h e)) (fun e => a2 (ix4 b x h e)) (fun e => a1 (ix4 b s h e)) (fun e => a3 (ix3 b x e))
    (fun _ => h0 _) (fun _ => h1 _) (fun _ => h2 _) (fun _ => h3 _)]

/-- A row of the reference: the softmax of the masked scores, times the values. -/
theorem row (h0 : ∀ i, a0 i = ((a0 i).toReal : EReal)) (h1 : ∀ i, a1 i = ((a1 i).toReal : EReal))
    (h2 : ∀ i, a2 i = ((a2 i).toReal : EReal)) (h3 : ∀ i, a3 i = ((a3 i).toReal : EReal)) (b : Fin 4) (h : Fin 8) (r : Fin 128)
    (s : Fin 8192) (M : EReal) (hM : M = max (Ideal.ofBits FTy.f32 0xFF800000#32)
      (Finset.fold max (Ideal.ofBits FTy.f32 0xFF800000#32) (ms a0 a1 a2 a3 b h s) Finset.univ)) :
    ∑ x, a4 (ix4 b x h r) * Ideal.div (Ideal.exp (ms a0 a1 a2 a3 b h s x - M)) (∑ y, Ideal.exp (ms a0 a1 a2 a3 b h s y - M))
      = attnAt a0 a1 a2 a3 a4 b h r s := by
  rw [Cert.KernelIdeal.Attn.word_bot] at hM
  unfold attnAt
  rw [← softmax_row (scoreAt a0 a1 a2 a3 b h s) (valAt a4 b h r) s (by norm_num) (ms a0 a1 a2 a3 b h s)
    (ms_eq a0 a1 a2 a3 h0 h1 h2 h3 b h s) M hM]
  refine Finset.sum_congr rfl fun x _ => ?_
  unfold valAt
  have hx : (⟨(x : ℕ) % 8192, Nat.mod_lt _ (by norm_num)⟩ : Fin 8192) = x := Fin.ext (Nat.mod_eq_of_lt x.isLt)
  rw [hx]

/-- The masked scores, as one term. -/
def msV (a0 : FVec Ideal S4x8192x8x128 .f32) (a1 : FVec Ideal S4x8192x8x64 .f32) (a2 : FVec Ideal S4x8192x8x128 .f32) (a3 : FVec Ideal S4x8192x64 .f32) :
    FVec Ideal S4x8x8192x8192 .f32 :=
  select
    (broadcastInDim S4x8x8192x8192 ![2, 3] bcast_S8192x8192_S4x8x8192x8192_2_3
      (cmpi CmpIPredicate.sle
        (broadcastInDim S8192x8192 ![0, 1] bcast_S1x8192_S8192x8192_0_1
          (broadcastInDim S1x8192 ![1] bcast_S8192_S1x8192_1 (iotaInDim S8192 32 0)))
        (broadcastInDim S8192x8192 ![0, 1] bcast_S8192x1_S8192x8192_0_1
          (broadcastInDim S8192x1 ![0] bcast_S8192_S8192x1_0 (iotaInDim S8192 32 0)))))
    (mulf
      (addf
        (Host.dotGeneral dot_S4x8192x8x128_S4x8192x8x128_S4x8x8192x8192_3_3_1_1_02_02 none a0 a2)
        (transpose S4x8x8192x8192 [0, 3, 2, 1]
          (Host.dotGeneral dot_S4x8192x64_S4x8192x8x64_S4x8192x8192x8_2_3_1_12_0_0 none a3 a1)
          transposes_S4x8192x8192x8_S4x8x8192x8192_0_3_2_1))
      (broadcastInDim S4x8x8192x8192 ![] bcast_S_S4x8x8192x8192
        (Host.divf (constant S_ FTy.f32 1065353216#32) (Host.sqrt (constant S_ FTy.f32 1128267776#32)))))
    (broadcastInDim S4x8x8192x8192 ![] bcast_S_S4x8x8192x8192 (constant S_ FTy.f32 4286578688#32))

/-- Their greatest along the keys. -/
def mxV (x : FVec Ideal S4x8x8192x8192 .f32) : FVec Ideal S4x8x8192 .f32 :=
  Host.reduce FloatOps.maximumf x (constant S_ FTy.f32 4286578688#32) reducesTo_S4x8x8192x8192_S4x8x8192_d3 h_S_

/-- The exponentials of the scores less a row's `M`. -/
def exV (x : FVec Ideal S4x8x8192x8192 .f32) (M : FVec Ideal S4x8x8192 .f32) : FVec Ideal S4x8x8192x8192 .f32 :=
  Host.exp (subf x (broadcastInDim S4x8x8192x8192 ![0, 1, 2, 3] bcast_S4x8x8192x1_S4x8x8192x8192_0_1_2_3
    (broadcastInDim S4x8x8192x1 ![0, 1, 2] bcast_S4x8x8192_S4x8x8192x1_0_1_2
      (maximumf (broadcastInDim S4x8x8192 ![] bcast_S_S4x8x8192 (constant S_ FTy.f32 4286578688#32))
        M))))

/-- Sums along the keys. -/
def smV (x : FVec Ideal S4x8x8192x8192 .f32) : FVec Ideal S4x8x8192 .f32 :=
  Host.reduceAdd x (constant S_ FTy.f32 0#32) reducesTo_S4x8x8192x8192_S4x8x8192_d3 h_S_

/-- Entries over their row's sum. -/
def pV (x : FVec Ideal S4x8x8192x8192 .f32) (S : FVec Ideal S4x8x8192 .f32) : FVec Ideal S4x8x8192x8192 .f32 :=
  Host.divf x (broadcastInDim S4x8x8192x8192 ![0, 1, 2, 3] bcast_S4x8x8192x1_S4x8x8192x8192_0_1_2_3
    (broadcastInDim S4x8x8192x1 ![0, 1, 2] bcast_S4x8x8192_S4x8x8192x1_0_1_2 S))

/-- The values weighted by it, laid out heads and features by positions. -/
def outV (p : FVec Ideal S4x8x8192x8192 .f32) (a4 : FVec Ideal S4x8192x8x128 .f32) : FVec Ideal S4x1024x8192 .bf16 :=
  truncf .bf16 (transpose S4x1024x8192 [0, 2, 1] (shapeCast S4x8192x1024 (transpose S4x8192x8x128 [0, 3, 1, 2]
    (Host.dotGeneral dot_S4x8192x8x128_S4x8x8192x8192_S4x8x128x8192_1_3_3_2_02_01 none a4 p)
    transposes_S4x8x128x8192_S4x8192x8x128_0_3_1_2) shapeCasts_S4x8192x8x128_S4x8192x1024) transposes_S4x8192x1024_S4x1024x8192_0_2_1)
    bitsLt_bf16_f32

/-- The greatest along a last axis, at any sizes. -/
theorem max_last {A B C N : ℕ} (x : FVec Ideal ⟨4, ![A, B, C, N]⟩ .f32) (w : BitVec 32)
    (hr : (⟨4, ![A, B, C, N]⟩ : Shape).ReducesTo [3] ⟨3, ![A, B, C]⟩) (hu : 0 < (⟨0, ![]⟩ : Shape).numel)
    (a : Fin A) (b : Fin B) (c : Fin C) :
    Host.reduce FloatOps.maximumf x (constant (⟨0, ![]⟩ : Shape) .f32 w) hr hu (ix3 a b c)
      = Finset.fold max (Ideal.ofBits .f32 w) (fun k => x (ix4 a b c k)) Finset.univ := by
  pointwise

/-- The greatest score of a row. -/
theorem mxV_at (x : FVec Ideal S4x8x8192x8192 .f32) (b : Fin 4) (h : Fin 8) (s : Fin 8192) :
    mxV x (ix3 b h s) = Finset.fold max (Ideal.ofBits .f32 0xFF800000#32) (fun k => x (ix4 b h s k)) Finset.univ :=
  max_last x _ _ _ b h s

/-- A masked score at an index. -/
theorem msV_at (b : Fin 4) (h : Fin 8) (s x : Fin 8192) : msV a0 a1 a2 a3 (ix4 b h s x) = ms a0 a1 a2 a3 b h s x := by
  unfold msV ms
  pointwise

/-- An exponential at an index. -/
theorem exV_at (y : FVec Ideal S4x8x8192x8192 .f32) (M : FVec Ideal S4x8x8192 .f32) (b : Fin 4) (h : Fin 8) (s x : Fin 8192) :
    exV y M (ix4 b h s x) = Ideal.exp (y (ix4 b h s x) - max (Ideal.ofBits .f32 0xFF800000#32) (M (ix3 b h s))) := by
  unfold exV
  pointwise

/-- A sum at an index. -/
theorem smV_at (y : FVec Ideal S4x8x8192x8192 .f32) (b : Fin 4) (h : Fin 8) (s : Fin 8192) :
    smV y (ix3 b h s) = ∑ x, y (ix4 b h s x) := by
  unfold smV
  pointwise

/-- A weight at an index. -/
theorem pV_at (y : FVec Ideal S4x8x8192x8192 .f32) (S : FVec Ideal S4x8x8192 .f32) (b : Fin 4) (h : Fin 8) (s x : Fin 8192) :
    pV y S (ix4 b h s x) = Ideal.div (y (ix4 b h s x)) (S (ix3 b h s)) := by
  unfold pV
  pointwise

/-- The result at an index. -/
theorem outV_at (p : FVec Ideal S4x8x8192x8192 .f32) (b : Fin 4) (i : Fin 1024) (s : Fin 8192) :
    outV p a4 (ix3 b i s) = ∑ x, a4 (ix4 b x ⟨i.val / 128, by omega⟩ ⟨i.val % 128, by omega⟩) * p (ix4 b ⟨i.val / 128, by omega⟩ s x) := by
  unfold outV
  pointwise

variable (m : (ℓ : Loc nD τ sig) → Buf (Elt Ideal) ℓ) (c : Dev nD)

/-- The argument arrays: queries without position, -/
def arg0 : FVec Ideal S4x8192x8x128 .f32 := m ((c : Thread nD τ).loc main_arg0)
/-- queries with rotary position, -/
def arg1 : FVec Ideal S4x8192x8x64 .f32 := m ((c : Thread nD τ).loc main_arg1)
/-- keys without position, -/
def arg2 : FVec Ideal S4x8192x8x128 .f32 := m ((c : Thread nD τ).loc main_arg2)
/-- the keys' shared rotary part, -/
def arg3 : FVec Ideal S4x8192x64 .f32 := m ((c : Thread nD τ).loc main_arg3)
/-- and the values. -/
def arg4 : FVec Ideal S4x8192x8x128 .f32 := m ((c : Thread nD τ).loc main_arg4)

/-- The softmax of scores. -/
def sftV (x : FVec Ideal S4x8x8192x8192 .f32) : FVec Ideal S4x8x8192x8192 .f32 := pV (exV x (mxV x)) (smV (exV x (mxV x)))

/-- The softmax at an index. -/
theorem sftV_at (y : FVec Ideal S4x8x8192x8192 .f32) (b : Fin 4) (h : Fin 8) (s x : Fin 8192) (f : Fin 8192 → EReal)
    (hf : ∀ k, y (ix4 b h s k) = f k) (M : EReal) (hM : M = max (Ideal.ofBits .f32 0xFF800000#32) (Finset.fold max (Ideal.ofBits .f32 0xFF800000#32) f Finset.univ)) :
    sftV y (ix4 b h s x) = Ideal.div (Ideal.exp (f x - M)) (∑ k, Ideal.exp (f k - M)) := by
  have e : ∀ k, exV y (mxV y) (ix4 b h s k) = Ideal.exp (f k - M) := fun k => by
    rw [exV_at, mxV_at, hf k, funext hf, hM]
  unfold sftV
  rw [pV_at, smV_at, e x, Finset.sum_congr rfl fun k _ => e k]

/-- The reference's result is these steps in turn. -/
theorem res_eq : Value.res_main_v30 m c = outV (sftV (msV (arg0 m c) (arg1 m c) (arg2 m c) (arg3 m c))) (arg4 m c) := by
  unfold Value.res_main_v30 sftV outV pV smV exV mxV msV
  rfl

/-- The reference's result at head `i / 128`, feature `i % 128` and position `s`. -/
theorem ref_at (h0 : ∀ i, arg0 m c i = ((arg0 m c i).toReal : EReal)) (h1 : ∀ i, arg1 m c i = ((arg1 m c i).toReal : EReal))
    (h2 : ∀ i, arg2 m c i = ((arg2 m c i).toReal : EReal)) (h3 : ∀ i, arg3 m c i = ((arg3 m c i).toReal : EReal))
    (b : Fin 4) (i : Fin 1024) (s : Fin 8192) :
    (Value.res_main_v30 m c : FVec Ideal S4x1024x8192 .bf16) (ix3 b i s)
      = attnAt (arg0 m c) (arg1 m c) (arg2 m c) (arg3 m c) (arg4 m c) b ⟨i.val / 128, by omega⟩ ⟨i.val % 128, by omega⟩ s := by
  rw [← row (arg0 m c) (arg1 m c) (arg2 m c) (arg3 m c) (arg4 m c) h0 h1 h2 h3 b ⟨i.val / 128, by omega⟩ ⟨i.val % 128, by omega⟩ s _ rfl,
    res_eq, outV_at]
  exact @Finset.sum_congr (Fin 8192) EReal _ _ _ _ _ rfl fun x _ => congrArg _ (sftV_at _ b _ s x _ (fun k => msV_at _ _ _ _ b _ s k) _ rfl)

end Cert.ReferenceIdeal.Attn

end
-- ==== Proof.PostSpec.lean ====
module

public import Idealize.ShloMosaic.Lib.Pointwise

@[expose] public section

noncomputable section

namespace Cert.PostSpec

open Idealize.ShloMosaic

/-- A row divided by its root mean square, times a gain. -/
def rowNorm (y g : Fin 1024 → EReal) (c : Fin 1024) : EReal :=
  y c * Ideal.rsqrt (Ideal.div (∑ k, y k * y k) (Ideal.ofBits .f32 0x44800000#32) + Ideal.ofBits .f32 0x358637BD#32) * g c

/-- A row after its residual: the gate times the normalised row is added to it. -/
def resRow (x y gate gain : Fin 1024 → EReal) (c : Fin 1024) : EReal := x c + gate c * rowNorm y gain c

/-- A row normalised, scaled and shifted. -/
def rowMod (x gain sc sh : Fin 1024 → EReal) (c : Fin 1024) : EReal := rowNorm x gain c * (1 + sc c) + sh c

/-- A row times a matrix. -/
def rowMul {K N : ℕ} (x : Fin K → EReal) (w : Fin K → Fin N → EReal) (c : Fin N) : EReal := ∑ k, x k * w k c

/-- The square of the positive part. -/
def relu2 (a : EReal) : EReal := max a 0 * max a 0

/-- A row through the feed-forward part. -/
def rowFF (h : Fin 1024 → EReal) (w1 : Fin 1024 → Fin 4096 → EReal) (w2 : Fin 4096 → Fin 1024 → EReal) (c : Fin 1024) : EReal :=
  ∑ f, relu2 (rowMul h w1 f) * w2 f c

/-- A row of the layer's result, from the row of the residual stream and the row of the attention. -/
def rowOut (x o g1 sh sc g2 n1 n2 n3 : Fin 1024 → EReal) (wo : Fin 1024 → Fin 1024 → EReal) (w1 : Fin 1024 → Fin 4096 → EReal)
    (w2 : Fin 4096 → Fin 1024 → EReal) : Fin 1024 → EReal :=
  let x1 := resRow x (rowMul o wo) g1 n1
  resRow x1 (rowFF (rowMod x1 n2 sc sh) w1 w2) g2 n3

/-- The result at position `s` of batch entry `b`, from the residual stream, the attention's output, the modulation vectors, the gains and the matrices. -/
def postAt (x o : FVec Ideal ⟨3, ![4, 8192, 1024]⟩ .f32) (ada : FVec Ideal ⟨2, ![4, 6144]⟩ .f32) (ng : FVec Ideal ⟨2, ![4, 1024]⟩ .f32)
    (wo : FVec Ideal ⟨2, ![1024, 1024]⟩ .f32) (w1 : FVec Ideal ⟨3, ![2, 1024, 4096]⟩ .f32) (w2 : FVec Ideal ⟨3, ![2, 4096, 1024]⟩ .f32)
    (b : Fin 4) (s : Fin 8192) : Fin 1024 → EReal :=
  rowOut (fun k => x (ix3 b s k)) (fun k => o (ix3 b s k)) (fun k => ada (ix2 b ⟨2048 + k.val, by omega⟩))
    (fun k => ada (ix2 b ⟨3072 + k.val, by omega⟩)) (fun k => ada (ix2 b ⟨4096 + k.val, by omega⟩)) (fun k => ada (ix2 b ⟨5120 + k.val, by omega⟩))
    (fun k => ng (ix2 1 k)) (fun k => ng (ix2 2 k)) (fun k => ng (ix2 3 k)) (fun k c => wo (ix2 k c)) (fun k f => w1 (ix3 1 k f)) (fun f c => w2 (ix3 1 f c))

/-- A sum over 4096 features is the sum over the four quarters, in turn. -/
theorem sum_quarters (f : Fin 4096 → EReal) :
    ∑ k, f k = (((∑ k : Fin 1024, f ⟨k.val, by omega⟩) + ∑ k : Fin 1024, f ⟨1024 + k.val, by omega⟩)
      + ∑ k : Fin 1024, f ⟨2048 + k.val, by omega⟩) + ∑ k : Fin 1024, f ⟨3072 + k.val, by omega⟩ := by
  rw [show (∑ k, f k) = ∑ k : Fin (3072 + 1024), f k from rfl, Fin.sum_univ_add]
  rw [show (∑ k : Fin 3072, f (Fin.castAdd 1024 k)) = ∑ k : Fin (2048 + 1024), f (Fin.castAdd 1024 k) from rfl, Fin.sum_univ_add]
  rw [show (∑ k : Fin 2048, f (Fin.castAdd 1024 (Fin.castAdd 1024 k))) = ∑ k : Fin (1024 + 1024), f (Fin.castAdd 1024 (Fin.castAdd 1024 k)) from rfl,
    Fin.sum_univ_add]
  rfl

end Cert.PostSpec

end
-- ==== Proof.PostVec.lean ====
module

public import proofs.«01_k».proof.Proof.Gen.Kernel2Ideal.Frame
public import proofs.«01_k».proof.Proof.PostSpec

@[expose] public section

set_option maxRecDepth 16384

noncomputable section

namespace Cert.Kernel2Ideal.Post

open Idealize.ShloMosaic Idealize.ShloMosaic.TcCoe
open Cert.Kernel2Ideal.Gen

variable {F : FTy → Type} [FloatOps F]

/-- The output projection of 256 rows. -/
def proj (o : Vec F S1x1024x256 .bf16) (w : Vec F S1024x1024 .bf16) : FVec F S256x1024 .f32 :=
  matmul (φ₁ := .bf16) (φ₂ := .bf16) dot_S1024x256_S1024x1024_S256x1024_0_0_1_1_n_n none (shapeCast S1024x256 o shapeCasts_S1x1024x256_S1024x256 : FVec F S1024x256 .bf16)
    (shapeCast S1024x1024 w shapeCasts_S1024x1024_S1024x1024 : FVec F S1024x1024 .bf16) (constant S256x1024 .f32 0x00000000#32)

/-- The sums of squares of 256 rows. -/
def sq (y : FVec F S256x1024 .f32) : FVec F S256 .f32 :=
  multiReduction .add [1] S256 (mulf y y) 0x00000000#32 reduces_S256x1024_S256 (.inl rfl) rfl

/-- From the sums of squares to the normalised rows, times a gain. -/
def nrm' (y : FVec F S256x1024 .f32) (s : FVec F S256 .f32) (g : FVec F S1x1024 .f32) : FVec F S256x1024 .f32 :=
  mulf (mulf y (broadcastTo S256x1024 (rsqrt (addf (divf (shapeCast S256x1 s shapeCasts_S256_S256x1 : FVec F S256x1 .f32)
      (broadcast S256x1 (Scalar.ofBits .f32 0x44800000#32))) (broadcast S256x1 (Scalar.ofBits .f32 0x358637BD#32)))) broadcasts_S256x1_S256x1024))
    (broadcastTo S256x1024 g broadcasts_S1x1024_S256x1024)

/-- Rows normalised, times a gain. -/
def nrm (y : FVec F S256x1024 .f32) (g : FVec F S1x1024 .f32) : FVec F S256x1024 .f32 := nrm' y (sq y) g

/-- Rows plus a gate times normalised rows. -/
def res (x y : FVec F S256x1024 .f32) (gate : Vec F S1x1x1024 .f32) (g : FVec F S1x1024 .f32) : FVec F S256x1024 .f32 :=
  addf x (mulf (broadcastTo S256x1024 (shapeCast S1x1024 gate shapeCasts_S1x1x1024_S1x1024 : FVec F S1x1024 .f32) broadcasts_S1x1024_S256x1024) (nrm y g))

/-- Rows normalised, scaled and shifted. -/
def hid (x : FVec F S256x1024 .f32) (g : FVec F S1x1024 .f32) (sc sh : Vec F S1x1x1024 .f32) : FVec F S256x1024 .bf16 :=
  truncf .bf16 (addf (mulf (nrm x g) (broadcastTo S256x1024 (addf (broadcast S1x1024 (Scalar.ofBits .f32 0x3F800000#32))
      (shapeCast S1x1024 sc shapeCasts_S1x1x1024_S1x1024 : FVec F S1x1024 .f32)) broadcasts_S1x1024_S256x1024))
    (broadcastTo S256x1024 (shapeCast S1x1024 sh shapeCasts_S1x1x1024_S1x1024 : FVec F S1x1024 .f32) broadcasts_S1x1024_S256x1024)) bitsLt_bf16_f32

/-- Rows times a quarter of the first matrix, -/
def up (h : FVec F S256x1024 .bf16) (w1 : Vec F S1x1024x1024 .bf16) : FVec F S256x1024 .f32 :=
  matmul (φ₁ := .bf16) (φ₂ := .bf16) dot_S256x1024_S1024x1024_S256x1024_1_0_0_1_n_n none h (shapeCast S1024x1024 w1 shapeCasts_S1x1024x1024_S1024x1024 : FVec F S1024x1024 .bf16)
    (constant S256x1024 .f32 0x00000000#32)

/-- the squares of the positive parts, -/
def act (a : FVec F S256x1024 .f32) : FVec F S256x1024 .bf16 :=
  truncf .bf16 (mulf (maximumf a (broadcast S256x1024 (Scalar.ofBits .f32 0x00000000#32))) (maximumf a (broadcast S256x1024 (Scalar.ofBits .f32 0x00000000#32))))
    bitsLt_bf16_f32

/-- and a quarter of the feed-forward part. -/
def quarter (h : FVec F S256x1024 .bf16) (w1 w2 : Vec F S1x1024x1024 .bf16) : FVec F S256x1024 .f32 := up (act (up h w1)) w2

/-- The four quarters, added in turn. -/
def ff (h : FVec F S256x1024 .bf16) (a0 b0 a1 b1 a2 b2 a3 b3 : Vec F S1x1024x1024 .bf16) : FVec F S256x1024 .f32 :=
  addf (addf (addf (quarter h a0 b0) (quarter h a1 b1)) (quarter h a2 b2)) (quarter h a3 b3)

/-- What the kernel writes for 256 rows. -/
def piece (x : Vec F S256x1024 .f32) (o : Vec F S1x1024x256 .bf16) (mods : Vec F S1x8x1024 .f32) (ng : Vec F S4x1024 .f32) (wo : Vec F S1024x1024 .bf16)
    (w1 : Vec F S1x1024x4096 .bf16) (w2 : Vec F S1x4096x1024 .bf16) : FVec F S256x1024 .f32 :=
  let x1 := res (shapeCast S256x1024 x shapeCasts_S256x1024_S256x1024 : FVec F S256x1024 .f32) (proj o wo) (View.ld mods r0_6) (View.ld ng r0_7)
  res x1 (ff (hid x1 (View.ld ng r0_8) (View.ld mods r0_9) (View.ld mods r0_10)) (View.ld w1 r0_11) (View.ld w2 r0_12) (View.ld w1 r0_13) (View.ld w2 r0_14)
    (View.ld w1 r0_15) (View.ld w2 r0_16) (View.ld w1 r0_17) (View.ld w2 r0_18)) (View.ld mods r0_19) (View.ld ng r0_20)

variable (x0 : Vec F S1024x1024 .f32) (x1 : Vec F S1x1024x1024 .bf16) (x2 : Vec F S1x8x1024 .f32) (x3 : Vec F S4x1024 .f32) (x4 : Vec F S1024x1024 .bf16)
  (x5 : Vec F S1x1024x4096 .bf16) (x6 : Vec F S1x4096x1024 .bf16)

/-- A point's block of the result is four such pieces. -/
theorem out_eq : out0_7 x0 x1 x2 x3 x4 x5 x6 = View.canon
    [⟨r0_23, piece (View.ld x0 r0_23) (View.ld x1 r0_4) x2 x3 (View.ld x4 r0_1) x5 x6⟩,
      ⟨r0_22, piece (View.ld x0 r0_22) (View.ld x1 r0_3) x2 x3 (View.ld x4 r0_1) x5 x6⟩,
      ⟨r0_21, piece (View.ld x0 r0_21) (View.ld x1 r0_2) x2 x3 (View.ld x4 r0_1) x5 x6⟩,
      ⟨r0_5, piece (View.ld x0 r0_5) (View.ld x1 r0_0) x2 x3 (View.ld x4 r0_1) x5 x6⟩] := by
  unfold_out out0_7
  rfl

end Cert.Kernel2Ideal.Post

end
-- ==== Proof.PostPt.lean ====
module

public import proofs.«01_k».proof.Proof.PostVec
public import Idealize.ShloMosaic.Lib.Pipeline.ValueKit

@[expose] public section

set_option maxRecDepth 16384

noncomputable section

namespace Cert.Kernel2Ideal.Post

open Idealize.ShloMosaic Idealize.ShloMosaic.TcCoe
open Cert.Kernel2Ideal.Gen
open Cert.PostSpec

/-- A load of part of a buffer of rank 3, read at an index. -/
theorem ld3 {A B C a b c o0 o1 o2 : ℕ} {φ : EltTy} (v : Vec Ideal ⟨3, ![A, B, C]⟩ φ) (inb) (i : Fin a) (j : Fin b) (k : Fin c)
    (i' : Fin A) (j' : Fin B) (k' : Fin C) (h0 : i'.val = o0 + i.val) (h1 : j'.val = o1 + j.val) (h2 : k'.val = o2 + k.val) :
    View.ld v (Rect.unit (s := ⟨3, ![A, B, C]⟩) ![o0, o1, o2] ![a, b, c] inb) (ix3 i j k) = v (ix3 i' j' k') := by
  refine congrArg v (funext fun d => Fin.ext ((Rect.idx_unit_val _ _ _ _ _).trans ?_))
  fin_cases d
  · exact h0.symm
  · exact h1.symm
  · exact h2.symm

/-- A load of part of a buffer of rank 2, read at an index. -/
theorem ld2 {A B a b o0 o1 : ℕ} {φ : EltTy} (v : Vec Ideal ⟨2, ![A, B]⟩ φ) (inb) (i : Fin a) (j : Fin b)
    (i' : Fin A) (j' : Fin B) (h0 : i'.val = o0 + i.val) (h1 : j'.val = o1 + j.val) :
    View.ld v (Rect.unit (s := ⟨2, ![A, B]⟩) ![o0, o1] ![a, b] inb) (ix2 i j) = v (ix2 i' j') := by
  refine congrArg v (funext fun d => Fin.ext ((Rect.idx_unit_val _ _ _ _ _).trans ?_))
  fin_cases d
  · exact h0.symm
  · exact h1.symm

/-- The word of the number 1. -/
theorem word_one : Ideal.ofBits FTy.f32 0x3F800000#32 = 1 := by
  simp [Ideal.ofBits, Ideal.ieee, -EReal.coe_mul]; norm_num

/-- The projection at an index. -/
theorem proj_at (o : Vec Ideal S1x1024x256 .bf16) (w : Vec Ideal S1024x1024 .bf16) (r : Fin 256) (c : Fin 1024) :
    proj o w (ix2 r c) = rowMul (fun k => o (ix3 0 k r)) (fun k c => w (ix2 k c)) c := by
  unfold proj rowMul
  pointwise

/-- The sum of squares at an index. -/
theorem sq_at (y : FVec Ideal S256x1024 .f32) (r : Fin 256) : sq y (ix1 r) = ∑ k, y (ix2 r k) * y (ix2 r k) := by
  unfold sq
  pointwise

/-- The normalised rows at an index, from the sums of squares. -/
theorem nrm'_at (y : FVec Ideal S256x1024 .f32) (s : FVec Ideal S256 .f32) (g : FVec Ideal S1x1024 .f32) (r : Fin 256) (c : Fin 1024) :
    nrm' y s g (ix2 r c) = y (ix2 r c) * Ideal.rsqrt (Ideal.div (s (ix1 r)) (Ideal.ofBits .f32 0x44800000#32) + Ideal.ofBits .f32 0x358637BD#32) * g (ix2 0 c) := by
  unfold nrm'
  pointwise

/-- The normalised rows at an index. -/
theorem nrm_at (y : FVec Ideal S256x1024 .f32) (g : FVec Ideal S1x1024 .f32) (r : Fin 256) (c : Fin 1024) :
    nrm y g (ix2 r c) = rowNorm (fun k => y (ix2 r k)) (fun c => g (ix2 0 c)) c := by
  unfold nrm rowNorm
  rw [nrm'_at, sq_at]

/-- Rows after their residual, from the normalised rows. -/
theorem res_core (x n : FVec Ideal S256x1024 .f32) (gate : Vec Ideal S1x1x1024 .f32) (r : Fin 256) (c : Fin 1024) :
    addf x (mulf (broadcastTo S256x1024 (shapeCast S1x1024 gate shapeCasts_S1x1x1024_S1x1024 : FVec Ideal S1x1024 .f32) broadcasts_S1x1024_S256x1024) n) (ix2 r c)
      = x (ix2 r c) + gate (ix3 0 0 c) * n (ix2 r c) := by
  pointwise

/-- Rows after their residual at an index. -/
theorem res_at (x y : FVec Ideal S256x1024 .f32) (gate : Vec Ideal S1x1x1024 .f32) (g : FVec Ideal S1x1024 .f32) (r : Fin 256) (c : Fin 1024) :
    res x y gate g (ix2 r c)
      = resRow (fun k => x (ix2 r k)) (fun k => y (ix2 r k)) (fun c => gate (ix3 0 0 c)) (fun c => g (ix2 0 c)) c := by
  unfold res resRow
  rw [res_core, nrm_at]

/-- Modulated rows, from the normalised rows. -/
theorem hid_core (n : FVec Ideal S256x1024 .f32) (sc sh : Vec Ideal S1x1x1024 .f32) (r : Fin 256) (c : Fin 1024) :
    truncf .bf16 (addf (mulf n (broadcastTo S256x1024 (addf (broadcast S1x1024 (Scalar.ofBits .f32 0x3F800000#32))
      (shapeCast S1x1024 sc shapeCasts_S1x1x1024_S1x1024 : FVec Ideal S1x1024 .f32)) broadcasts_S1x1024_S256x1024))
    (broadcastTo S256x1024 (shapeCast S1x1024 sh shapeCasts_S1x1x1024_S1x1024 : FVec Ideal S1x1024 .f32) broadcasts_S1x1024_S256x1024)) bitsLt_bf16_f32 (ix2 r c)
      = n (ix2 r c) * (Ideal.ofBits .f32 0x3F800000#32 + sc (ix3 0 0 c)) + sh (ix3 0 0 c) := by
  pointwise

/-- Modulated rows at an index. -/
theorem hid_at (x : FVec Ideal S256x1024 .f32) (g : FVec Ideal S1x1024 .f32) (sc sh : Vec Ideal S1x1x1024 .f32) (r : Fin 256) (c : Fin 1024) :
    hid x g sc sh (ix2 r c)
      = rowMod (fun k => x (ix2 r k)) (fun c => g (ix2 0 c)) (fun c => sc (ix3 0 0 c)) (fun c => sh (ix3 0 0 c)) c := by
  unfold hid rowMod
  rw [hid_core, nrm_at, word_one]

/-- A product with a quarter of a matrix at an index. -/
theorem up_at (h : FVec Ideal S256x1024 .bf16) (w : Vec Ideal S1x1024x1024 .bf16) (r : Fin 256) (c : Fin 1024) :
    up h w (ix2 r c) = ∑ k, h (ix2 r k) * w (ix3 0 k c) := by
  unfold up
  pointwise

/-- The squares of the positive parts at an index. -/
theorem act_at (a : FVec Ideal S256x1024 .f32) (r : Fin 256) (c : Fin 1024) : act a (ix2 r c) = relu2 (a (ix2 r c)) := by
  unfold act relu2
  pointwise

/-- A quarter of the feed-forward part at an index. -/
theorem quarter_at (h : FVec Ideal S256x1024 .bf16) (w1 w2 : Vec Ideal S1x1024x1024 .bf16) (r : Fin 256) (c : Fin 1024) :
    quarter h w1 w2 (ix2 r c) = ∑ f, relu2 (∑ k, h (ix2 r k) * w1 (ix3 0 k f)) * w2 (ix3 0 f c) := by
  unfold quarter
  rw [up_at]
  refine Finset.sum_congr rfl fun f _ => ?_
  rw [act_at, up_at]

/-- The four quarters at an index. -/
theorem ff_at (h : FVec Ideal S256x1024 .bf16) (w1 : Vec Ideal S1x1024x4096 .bf16) (w2 : Vec Ideal S1x4096x1024 .bf16) (r : Fin 256) (c : Fin 1024) :
    ff h (View.ld w1 r0_11) (View.ld w2 r0_12) (View.ld w1 r0_13) (View.ld w2 r0_14)
      (View.ld w1 r0_15) (View.ld w2 r0_16) (View.ld w1 r0_17) (View.ld w2 r0_18) (ix2 r c)
      = rowFF (fun k => h (ix2 r k)) (fun k f => w1 (ix3 0 k f)) (fun f c => w2 (ix3 0 f c)) c := by
  have a0 : ∀ k f : Fin 1024, View.ld w1 r0_11 (ix3 0 k f) = w1 (ix3 0 k ⟨f.val, by omega⟩) := fun k f => ld3 _ _ _ _ _ _ _ _ (by simp) (by simp) (by simp)
  have a1 : ∀ k f : Fin 1024, View.ld w1 r0_13 (ix3 0 k f) = w1 (ix3 0 k ⟨1024 + f.val, by omega⟩) := fun k f => ld3 _ _ _ _ _ _ _ _ (by simp) (by simp) (by simp)
  have a2 : ∀ k f : Fin 1024, View.ld w1 r0_15 (ix3 0 k f) = w1 (ix3 0 k ⟨2048 + f.val, by omega⟩) := fun k f => ld3 _ _ _ _ _ _ _ _ (by simp) (by simp) (by simp)
  have a3 : ∀ k f : Fin 1024, View.ld w1 r0_17 (ix3 0 k f) = w1 (ix3 0 k ⟨3072 + f.val, by omega⟩) := fun k f => ld3 _ _ _ _ _ _ _ _ (by simp) (by simp) (by simp)
  have b0 : ∀ k f : Fin 1024, View.ld w2 r0_12 (ix3 0 k f) = w2 (ix3 0 ⟨k.val, by omega⟩ f) := fun k f => ld3 _ _ _ _ _ _ _ _ (by simp) (by simp) (by simp)
  have b1 : ∀ k f : Fin 1024, View.ld w2 r0_14 (ix3 0 k f) = w2 (ix3 0 ⟨1024 + k.val, by omega⟩ f) := fun k f => ld3 _ _ _ _ _ _ _ _ (by simp) (by simp) (by simp)
  have b2 : ∀ k f : Fin 1024, View.ld w2 r0_16 (ix3 0 k f) = w2 (ix3 0 ⟨2048 + k.val, by omega⟩ f) := fun k f => ld3 _ _ _ _ _ _ _ _ (by simp) (by simp) (by simp)
  have b3 : ∀ k f : Fin 1024, View.ld w2 r0_18 (ix3 0 k f) = w2 (ix3 0 ⟨3072 + k.val, by omega⟩ f) := fun k f => ld3 _ _ _ _ _ _ _ _ (by simp) (by simp) (by simp)
  unfold ff rowFF rowMul
  rw [sum_quarters]
  show ((quarter _ _ _ (ix2 r c) + quarter _ _ _ (ix2 r c)) + quarter _ _ _ (ix2 r c)) + quarter _ _ _ (ix2 r c) = _
  rw [quarter_at, quarter_at, quarter_at, quarter_at]
  simp only [a0, a1, a2, a3, b0, b1, b2, b3]

/-- What the kernel writes for 256 rows, at an index. -/
theorem piece_at (x : Vec Ideal S256x1024 .f32) (o : Vec Ideal S1x1024x256 .bf16) (mods : Vec Ideal S1x8x1024 .f32) (ng : Vec Ideal S4x1024 .f32)
    (wo : Vec Ideal S1024x1024 .bf16) (w1 : Vec Ideal S1x1024x4096 .bf16) (w2 : Vec Ideal S1x4096x1024 .bf16) (r : Fin 256) (c : Fin 1024) :
    piece x o mods ng wo w1 w2 (ix2 r c)
      = rowOut (fun k => x (ix2 r k)) (fun k => o (ix3 0 k r)) (fun k => mods (ix3 0 2 k)) (fun k => mods (ix3 0 3 k)) (fun k => mods (ix3 0 4 k))
        (fun k => mods (ix3 0 5 k)) (fun k => ng (ix2 1 k)) (fun k => ng (ix2 2 k)) (fun k => ng (ix2 3 k)) (fun k c => wo (ix2 k c))
        (fun k f => w1 (ix3 0 k f)) (fun f c => w2 (ix3 0 f c)) c := by
  have m2 : ∀ k : Fin 1024, View.ld mods r0_6 (ix3 0 0 k) = mods (ix3 0 2 k) := fun k => ld3 _ _ _ _ _ _ _ _ (by simp) (by simp) (by simp)
  have m3 : ∀ k : Fin 1024, View.ld mods r0_10 (ix3 0 0 k) = mods (ix3 0 3 k) := fun k => ld3 _ _ _ _ _ _ _ _ (by simp) (by simp) (by simp)
  have m4 : ∀ k : Fin 1024, View.ld mods r0_9 (ix3 0 0 k) = mods (ix3 0 4 k) := fun k => ld3 _ _ _ _ _ _ _ _ (by simp) (by simp) (by simp)
  have m5 : ∀ k : Fin 1024, View.ld mods r0_19 (ix3 0 0 k) = mods (ix3 0 5 k) := fun k => ld3 _ _ _ _ _ _ _ _ (by simp) (by simp) (by simp)
  have n1 : ∀ k : Fin 1024, View.ld ng r0_7 (ix2 0 k) = ng (ix2 1 k) := fun k => ld2 _ _ _ _ _ _ (by simp) (by simp)
  have n2 : ∀ k : Fin 1024, View.ld ng r0_8 (ix2 0 k) = ng (ix2 2 k) := fun k => ld2 _ _ _ _ _ _ (by simp) (by simp)
  have n3 : ∀ k : Fin 1024, View.ld ng r0_20 (ix2 0 k) = ng (ix2 3 k) := fun k => ld2 _ _ _ _ _ _ (by simp) (by simp)
  have hx : ∀ k : Fin 1024, (shapeCast S256x1024 x shapeCasts_S256x1024_S256x1024 : FVec Ideal S256x1024 .f32) (ix2 r k) = x (ix2 r k) := fun k => by
    pointwise
  unfold piece rowOut
  simp only [res_at, ff_at, hid_at, proj_at, hx, m2, m3, m4, m5]
  simp only [n1, n2, n3]

end Cert.Kernel2Ideal.Post

end
-- ==== Proof.PostHost.lean ====
module

public import proofs.«01_k».proof.Proof.Gen.Kernel2Ideal.Frame
public import Idealize.ShloMosaic.Lib.Pointwise
public import Idealize.ShloMosaic.Lib.StableHlo.ReadAt

@[expose] public section

set_option maxRecDepth 16384

noncomputable section

namespace Cert.Kernel2Ideal.Post

open Idealize.ShloMosaic Idealize.ShloMosaic.TcCoe
open Cert.Kernel2Ideal.Gen

variable (m : (ℓ : Loc nD τ sig) → Buf (Elt Ideal) ℓ) (c : Dev nD)

/-- The argument arrays: the residual stream, -/
def arg0 : FVec Ideal S4x8192x1024 .f32 := m ((c : Thread nD τ).loc main_arg0)
/-- the attention's output, -/
def arg1 : FVec Ideal S4x8192x1024 .f32 := m ((c : Thread nD τ).loc main_arg1)
/-- the modulation vectors, -/
def arg2 : FVec Ideal S4x6144 .f32 := m ((c : Thread nD τ).loc main_arg2)
/-- the gains of the norms, -/
def arg3 : FVec Ideal S4x1024 .f32 := m ((c : Thread nD τ).loc main_arg3)
/-- the output projection, -/
def arg4 : FVec Ideal S1024x1024 .f32 := m ((c : Thread nD τ).loc main_arg4)
/-- and the two matrices of the feed-forward part, of both layers: the first -/
def arg5 : FVec Ideal S2x1024x4096 .f32 := m ((c : Thread nD τ).loc main_arg5)
/-- and the second. -/
def arg6 : FVec Ideal S2x4096x1024 .f32 := m ((c : Thread nD τ).loc main_arg6)

/-- The residual stream as rows. -/
theorem x_at (R : Fin 32768) (k : Fin 1024) :
    (V m c main_v14 : FVec Ideal S32768x1024 .f32) (ix2 R k) = arg0 m c (ix3 ⟨R.val / 8192, by omega⟩ ⟨R.val % 8192, by omega⟩ k) := by
  unfold V
  after_reads_at
  rfl

/-- The attention's output, transposed. -/
theorem o_at (b : Fin 4) (k : Fin 1024) (s : Fin 8192) :
    (V m c main_v16 : FVec Ideal S4x1024x8192 .bf16) (ix3 b k s) = arg1 m c (ix3 b s k) := by
  unfold V
  after_reads_at
  rfl

/-- The gains. -/
theorem n_at (i : S4x1024.Idx) : (V m c main_arg3 : FVec Ideal S4x1024 .f32) i = arg3 m c i := by
  unfold V
  after_reads_at
  rfl

/-- The output projection. -/
theorem wo_at (i k : Fin 1024) : (V m c main_v17 : FVec Ideal S1024x1024 .bf16) (ix2 i k) = arg4 m c (ix2 i k) := by
  unfold V
  after_reads_at
  rfl

/-- The first matrix. -/
theorem w1_at (l : Fin 2) (k : Fin 1024) (f : Fin 4096) :
    (V m c main_v18 : FVec Ideal S2x1024x4096 .bf16) (ix3 l k f) = arg5 m c (ix3 l k f) := by
  unfold V
  after_reads_at
  rfl

/-- The second matrix. -/
theorem w2_at (l : Fin 2) (f : Fin 4096) (k : Fin 1024) :
    (V m c main_v19 : FVec Ideal S2x4096x1024 .bf16) (ix3 l f k) = arg6 m c (ix3 l f k) := by
  unfold V
  after_reads_at
  rfl

/-- The third modulation vector: the gate of the attention's residual. -/
theorem mod2_at (b : Fin 4) (k : Fin 1024) :
    (V m c main_v13 : FVec Ideal S4x8x1024 .f32) (ix3 b 2 k) = arg2 m c (ix2 b ⟨2048 + k.val, by omega⟩) := by
  unfold V
  after_reads_at
  after_reads_at
  rfl

/-- The fourth: the shift. -/
theorem mod3_at (b : Fin 4) (k : Fin 1024) :
    (V m c main_v13 : FVec Ideal S4x8x1024 .f32) (ix3 b 3 k) = arg2 m c (ix2 b ⟨3072 + k.val, by omega⟩) := by
  unfold V
  after_reads_at
  after_reads_at
  rfl

/-- The fifth: the scale. -/
theorem mod4_at (b : Fin 4) (k : Fin 1024) :
    (V m c main_v13 : FVec Ideal S4x8x1024 .f32) (ix3 b 4 k) = arg2 m c (ix2 b ⟨4096 + k.val, by omega⟩) := by
  unfold V
  after_reads_at
  after_reads_at
  rfl

/-- The sixth: the gate of the feed-forward part's residual. -/
theorem mod5_at (b : Fin 4) (k : Fin 1024) :
    (V m c main_v13 : FVec Ideal S4x8x1024 .f32) (ix3 b 5 k) = arg2 m c (ix2 b ⟨5120 + k.val, by omega⟩) := by
  unfold V
  after_reads_at
  after_reads_at
  rfl

end Cert.Kernel2Ideal.Post

end
-- ==== Proof.PostTile.lean ====
module

public import proofs.«01_k».proof.Proof.Gen.Kernel2Ideal.Value
public import proofs.«01_k».proof.Proof.PostPt
public import proofs.«01_k».proof.Proof.PostHost
public import Idealize.ShloMosaic.Lib.Pipeline.ValueKit

@[expose] public section

set_option maxRecDepth 16384

noncomputable section

namespace Cert.Kernel2Ideal.Post

open Idealize.ShloMosaic Idealize.ShloMosaic.TcCoe
open Idealize.ShloMosaic.Pipeline (Dat)
open Cert.Kernel2Ideal.Gen
open Cert.PostSpec

/-- A point's number is below 32. -/
theorem lt_N (t : Fin cfg0.N) : t.val < 32 := lt_of_lt_of_eq t.isLt N_0

/-- Where a point's blocks lie: the residual stream's, -/
theorem idx0 : ∀ t : Fin grid0.N, win0_0.index t = ![t.val, 0] := by decide +kernel
/-- the attention's, -/
theorem idx1 : ∀ t : Fin grid0.N, win0_1.index t = ![t.val / 8, 0, t.val % 8] := by decide +kernel
/-- the modulation vectors', -/
theorem idx2 : ∀ t : Fin grid0.N, win0_2.index t = ![t.val / 8, 0, 0] := by decide +kernel
/-- the gains', -/
theorem idx3 : ∀ t : Fin grid0.N, win0_3.index t = ![0, 0] := by decide +kernel
/-- the output projection's, -/
theorem idx4 : ∀ t : Fin grid0.N, win0_4.index t = ![0, 0] := by decide +kernel
/-- the first matrix's, -/
theorem idx5 : ∀ t : Fin grid0.N, win0_5.index t = ![1, 0, 0] := by decide +kernel
/-- the second's, -/
theorem idx6 : ∀ t : Fin grid0.N, win0_6.index t = ![1, 0, 0] := by decide +kernel
/-- and the result's. -/
theorem idx7 : ∀ t : Fin grid0.N, win0_7.index t = ![t.val, 0] := by decide +kernel

section Reads

variable {F : FTy → Type} [FloatOps F]

/-- A block read at an index is its array at the block's place: the residual stream, -/
theorem read0 (X : (b : Ref sig .tc) → b.ty.Contents (Elt F)) (t : Fin cfg0.N) (y) (i) (hi : ((cfg0.win 0).blk t).view.emb y = i) :
    ((cfg0.win 0).blk t).view.read (Elt F) (X (Pipeline.arrRef spec0 0)) y = X main_v14 i := by subst hi; rfl
/-- the attention, -/
theorem read1 (X : (b : Ref sig .tc) → b.ty.Contents (Elt F)) (t : Fin cfg0.N) (y) (i) (hi : ((cfg0.win 1).blk t).view.emb y = i) :
    ((cfg0.win 1).blk t).view.read (Elt F) (X (Pipeline.arrRef spec0 1)) y = X main_v16 i := by subst hi; rfl
/-- the modulation vectors, -/
theorem read2 (X : (b : Ref sig .tc) → b.ty.Contents (Elt F)) (t : Fin cfg0.N) (y) (i) (hi : ((cfg0.win 2).blk t).view.emb y = i) :
    ((cfg0.win 2).blk t).view.read (Elt F) (X (Pipeline.arrRef spec0 2)) y = X main_v13 i := by subst hi; rfl
/-- the gains, -/
theorem read3 (X : (b : Ref sig .tc) → b.ty.Contents (Elt F)) (t : Fin cfg0.N) (y) (i) (hi : ((cfg0.win 3).blk t).view.emb y = i) :
    ((cfg0.win 3).blk t).view.read (Elt F) (X (Pipeline.arrRef spec0 3)) y = X main_arg3 i := by subst hi; rfl
/-- the output projection, -/
theorem read4 (X : (b : Ref sig .tc) → b.ty.Contents (Elt F)) (t : Fin cfg0.N) (y) (i) (hi : ((cfg0.win 4).blk t).view.emb y = i) :
    ((cfg0.win 4).blk t).view.read (Elt F) (X (Pipeline.arrRef spec0 4)) y = X main_v17 i := by subst hi; rfl
/-- the first matrix, -/
theorem read5 (X : (b : Ref sig .tc) → b.ty.Contents (Elt F)) (t : Fin cfg0.N) (y) (i) (hi : ((cfg0.win 5).blk t).view.emb y = i) :
    ((cfg0.win 5).blk t).view.read (Elt F) (X (Pipeline.arrRef spec0 5)) y = X main_v18 i := by subst hi; rfl
/-- and the second. -/
theorem read6 (X : (b : Ref sig .tc) → b.ty.Contents (Elt F)) (t : Fin cfg0.N) (y) (i) (hi : ((cfg0.win 6).blk t).view.emb y = i) :
    ((cfg0.win 6).blk t).view.read (Elt F) (X (Pipeline.arrRef spec0 6)) y = X main_v19 i := by subst hi; rfl

end Reads

variable (m : (ℓ : Loc nD τ sig) → Buf (Elt Ideal) ℓ) (c : Dev nD)

/-- A point's rows of the residual stream, -/
theorem blk0 (t : Fin cfg0.N) (r k : Fin 1024) (R : Fin 32768) (h : R.val = t.val * 1024 + r.val) :
    (iblk m c 0 t : FVec Ideal S1024x1024 .f32) (ix2 r k) = (V m c main_v14 : FVec Ideal S32768x1024 .f32) (ix2 R k) := by
  have := lt_N t
  exact read0 (V m c) t (ix2 r k) (ix2 R k) (by blk_ext [idx0])
/-- of the attention, -/
theorem blk1 (t : Fin cfg0.N) (k r : Fin 1024) (b : Fin 4) (s : Fin 8192) (hb : b.val = t.val / 8) (hs : s.val = t.val % 8 * 1024 + r.val) :
    (iblk m c 1 t : FVec Ideal S1x1024x1024 .bf16) (ix3 0 k r) = (V m c main_v16 : FVec Ideal S4x1024x8192 .bf16) (ix3 b k s) := by
  have := lt_N t
  exact read1 (V m c) t (ix3 0 k r) (ix3 b k s) (by blk_ext [idx1])
/-- its modulation vectors, -/
theorem blk2 (t : Fin cfg0.N) (j : Fin 8) (k : Fin 1024) (b : Fin 4) (hb : b.val = t.val / 8) :
    (iblk m c 2 t : FVec Ideal S1x8x1024 .f32) (ix3 0 j k) = (V m c main_v13 : FVec Ideal S4x8x1024 .f32) (ix3 b j k) := by
  have := lt_N t
  exact read2 (V m c) t (ix3 0 j k) (ix3 b j k) (by blk_ext [idx2])
/-- the gains, -/
theorem blk3 (t : Fin cfg0.N) (j : Fin 4) (k : Fin 1024) :
    (iblk m c 3 t : FVec Ideal S4x1024 .f32) (ix2 j k) = (V m c main_arg3 : FVec Ideal S4x1024 .f32) (ix2 j k) := by
  have := lt_N t
  exact read3 (V m c) t (ix2 j k) (ix2 j k) (by blk_ext [idx3])
/-- the output projection, -/
theorem blk4 (t : Fin cfg0.N) (j k : Fin 1024) :
    (iblk m c 4 t : FVec Ideal S1024x1024 .bf16) (ix2 j k) = (V m c main_v17 : FVec Ideal S1024x1024 .bf16) (ix2 j k) := by
  have := lt_N t
  exact read4 (V m c) t (ix2 j k) (ix2 j k) (by blk_ext [idx4])
/-- the second layer's first matrix, -/
theorem blk5 (t : Fin cfg0.N) (k : Fin 1024) (f : Fin 4096) :
    (iblk m c 5 t : FVec Ideal S1x1024x4096 .bf16) (ix3 0 k f) = (V m c main_v18 : FVec Ideal S2x1024x4096 .bf16) (ix3 1 k f) := by
  have := lt_N t
  exact read5 (V m c) t (ix3 0 k f) (ix3 1 k f) (by blk_ext [idx5])
/-- and its second. -/
theorem blk6 (t : Fin cfg0.N) (f : Fin 4096) (k : Fin 1024) :
    (iblk m c 6 t : FVec Ideal S1x4096x1024 .bf16) (ix3 0 f k) = (V m c main_v19 : FVec Ideal S2x4096x1024 .bf16) (ix3 1 f k) := by
  have := lt_N t
  exact read6 (V m c) t (ix3 0 f k) (ix3 1 f k) (by blk_ext [idx6])

section Block

variable (x0 : Vec Ideal S1024x1024 .f32) (x1 : Vec Ideal S1x1024x1024 .bf16) (x2 : Vec Ideal S1x8x1024 .f32) (x3 : Vec Ideal S4x1024 .f32)
  (x4 : Vec Ideal S1024x1024 .bf16) (x5 : Vec Ideal S1x1024x4096 .bf16) (x6 : Vec Ideal S1x4096x1024 .bf16)

/-- A row of a point's block of the result. -/
def blkRow (r : Fin 1024) : Fin 1024 → EReal :=
  rowOut (fun k => x0 (ix2 r k)) (fun k => x1 (ix3 0 k r)) (fun k => x2 (ix3 0 2 k)) (fun k => x2 (ix3 0 3 k)) (fun k => x2 (ix3 0 4 k))
    (fun k => x2 (ix3 0 5 k)) (fun k => x3 (ix2 1 k)) (fun k => x3 (ix2 2 k)) (fun k => x3 (ix2 3 k)) (fun k c => x4 (ix2 k c))
    (fun k f => x5 (ix3 0 k f)) (fun f c => x6 (ix3 0 f c))

/-- A piece's rows are rows of the block, from the piece's first row on. -/
theorem piece_row {o : ℕ} (i0 i1) (r : Fin 256) (k : Fin 1024) (r' : Fin 1024) (h : r'.val = o + r.val) :
    piece (View.ld x0 (Rect.unit (s := S1024x1024) ![o, 0] S256x1024.size i0)) (View.ld x1 (Rect.unit (s := S1x1024x1024) ![0, 0, o] S1x1024x256.size i1))
      x2 x3 (View.ld x4 r0_1) x5 x6 (ix2 r k) = blkRow x0 x1 x2 x3 x4 x5 x6 r' k := by
  refine (piece_at _ _ _ _ _ _ _ r k).trans ?_
  unfold blkRow
  have e0 : ∀ k : Fin 1024, View.ld x0 (Rect.unit (s := S1024x1024) ![o, 0] S256x1024.size i0) (ix2 r k) = x0 (ix2 r' k) :=
    fun k => ld2 _ _ _ _ _ _ h (by simp)
  have e1 : ∀ k : Fin 1024, View.ld x1 (Rect.unit (s := S1x1024x1024) ![0, 0, o] S1x1024x256.size i1) (ix3 0 k r) = x1 (ix3 0 k r') :=
    fun k => ld3 _ _ _ _ _ _ _ _ (by simp) (by simp) h
  have e4 : ∀ i k : Fin 1024, View.ld x4 r0_1 (ix2 i k) = x4 (ix2 i k) := fun i k => ld2 _ _ _ _ _ _ (by simp) (by simp)
  simp only [e0, e1, e4]

/-- The same at any index of the piece. -/
theorem piece_row' {o : ℕ} (i0 i1) (x : S256x1024.Idx) :
    piece (View.ld x0 (Rect.unit (s := S1024x1024) ![o, 0] S256x1024.size i0)) (View.ld x1 (Rect.unit (s := S1x1024x1024) ![0, 0, o] S1x1024x256.size i1))
      x2 x3 (View.ld x4 r0_1) x5 x6 x
      = blkRow x0 x1 x2 x3 x4 x5 x6 ((Rect.unit (s := S1024x1024) ![o, 0] S256x1024.size i0).idx x 0) ((Rect.unit (s := S1024x1024) ![o, 0] S256x1024.size i0).idx x 1) := by
  have hx : x = ix2 ⟨(x 0).val, (x 0).isLt⟩ ⟨(x 1).val, (x 1).isLt⟩ := by
    funext a; fin_cases a <;> rfl
  refine (congrArg _ hx).trans ((piece_row x0 x1 x2 x3 x4 x5 x6 i0 i1 _ _ ((Rect.unit (s := S1024x1024) ![o, 0] S256x1024.size i0).idx x 0) ?_).trans ?_)
  · exact Rect.idx_unit_val _ _ _ _ _
  · refine congrArg _ (Fin.ext ?_)
    refine Eq.symm ((Rect.idx_unit_val _ _ _ _ _).trans ?_)
    show 0 + (x 1).val = (x 1).val
    omega

/-- A point's block of the result, row by row. -/
theorem out_at (y : S1024x1024.Idx) : out0_7 x0 x1 x2 x3 x4 x5 x6 y = blkRow x0 x1 x2 x3 x4 x5 x6 (y 0) (y 1) := by
  rw [out_eq]
  refine View.canon_apply_of_pieces (Val := Elt Ideal) (fun y => blkRow x0 x1 x2 x3 x4 x5 x6 (y 0) (y 1)) _ ?_ y (cover0_7 _ _ _ _ y)
  intro pc hpc x
  rcases List.mem_cons.mp hpc with rfl | hpc
  · exact piece_row' x0 x1 x2 x3 x4 x5 x6 _ _ x
  rcases List.mem_cons.mp hpc with rfl | hpc
  · exact piece_row' x0 x1 x2 x3 x4 x5 x6 _ _ x
  rcases List.mem_cons.mp hpc with rfl | hpc
  · exact piece_row' x0 x1 x2 x3 x4 x5 x6 _ _ x
  rcases List.mem_cons.mp hpc with rfl | hpc
  · exact piece_row' x0 x1 x2 x3 x4 x5 x6 _ _ x
  nomatch hpc

end Block

/-- The rows of the layer's result, over all batches. -/
def postArr : FVec Ideal S32768x1024 .f32 := fun i =>
  postAt (arg0 m c) (arg1 m c) (arg2 m c) (arg3 m c) (arg4 m c) (arg5 m c) (arg6 m c)
    ⟨(i 0).val / 8192, by have : (i 0).val < 32768 := (i 0).isLt; omega⟩ ⟨(i 0).val % 8192, by omega⟩ ⟨(i 1).val, (i 1).isLt⟩

/-- A row of a point's block is the row of the result. -/
theorem row_eq (t : Fin cfg0.N) (r : Fin 1024) (b : Fin 4) (s : Fin 8192) (hb : b.val = t.val / 8) (hs : s.val = t.val % 8 * 1024 + r.val) :
    blkRow (iblk m c 0 t) (iblk m c 1 t) (iblk m c 2 t) (iblk m c 3 t) (iblk m c 4 t) (iblk m c 5 t) (iblk m c 6 t) r
      = postAt (arg0 m c) (arg1 m c) (arg2 m c) (arg3 m c) (arg4 m c) (arg5 m c) (arg6 m c) b s := by
  have ht := lt_N t
  have e0 : ∀ k : Fin 1024, (iblk m c 0 t : FVec Ideal S1024x1024 .f32) (ix2 r k) = arg0 m c (ix3 b s k) := fun k => by
    refine ((blk0 m c t r k ⟨t.val * 1024 + r.val, by omega⟩ rfl).trans (x_at m c _ k)).trans ?_
    refine congrArg (arg0 m c) ?_
    congr 1
    · exact Fin.ext (by show (t.val * 1024 + r.val) / 8192 = b.val; omega)
    · exact Fin.ext (by show (t.val * 1024 + r.val) % 8192 = s.val; omega)
  have e1 : ∀ k : Fin 1024, (iblk m c 1 t : FVec Ideal S1x1024x1024 .bf16) (ix3 0 k r) = arg1 m c (ix3 b s k) := fun k =>
    (blk1 m c t k r b s hb hs).trans (o_at m c b k s)
  have g2 : ∀ k : Fin 1024, (iblk m c 2 t : FVec Ideal S1x8x1024 .f32) (ix3 0 2 k) = arg2 m c (ix2 b ⟨2048 + k.val, by omega⟩) :=
    fun k => (blk2 m c t 2 k b hb).trans (mod2_at m c b k)
  have g3 : ∀ k : Fin 1024, (iblk m c 2 t : FVec Ideal S1x8x1024 .f32) (ix3 0 3 k) = arg2 m c (ix2 b ⟨3072 + k.val, by omega⟩) :=
    fun k => (blk2 m c t 3 k b hb).trans (mod3_at m c b k)
  have g4 : ∀ k : Fin 1024, (iblk m c 2 t : FVec Ideal S1x8x1024 .f32) (ix3 0 4 k) = arg2 m c (ix2 b ⟨4096 + k.val, by omega⟩) :=
    fun k => (blk2 m c t 4 k b hb).trans (mod4_at m c b k)
  have g5 : ∀ k : Fin 1024, (iblk m c 2 t : FVec Ideal S1x8x1024 .f32) (ix3 0 5 k) = arg2 m c (ix2 b ⟨5120 + k.val, by omega⟩) :=
    fun k => (blk2 m c t 5 k b hb).trans (mod5_at m c b k)
  have e3 : ∀ (j : Fin 4) (k : Fin 1024), (iblk m c 3 t : FVec Ideal S4x1024 .f32) (ix2 j k) = arg3 m c (ix2 j k) :=
    fun j k => (blk3 m c t j k).trans (n_at m c _)
  have e4 : ∀ j k : Fin 1024, (iblk m c 4 t : FVec Ideal S1024x1024 .bf16) (ix2 j k) = arg4 m c (ix2 j k) :=
    fun j k => (blk4 m c t j k).trans (wo_at m c j k)
  have e5 : ∀ (k : Fin 1024) (f : Fin 4096), (iblk m c 5 t : FVec Ideal S1x1024x4096 .bf16) (ix3 0 k f) = arg5 m c (ix3 1 k f) :=
    fun k f => (blk5 m c t k f).trans (w1_at m c 1 k f)
  have e6 : ∀ (f : Fin 4096) (k : Fin 1024), (iblk m c 6 t : FVec Ideal S1x4096x1024 .bf16) (ix3 0 f k) = arg6 m c (ix3 1 f k) :=
    fun f k => (blk6 m c t f k).trans (w2_at m c 1 f k)
  unfold blkRow postAt
  simp only [e0, e1, e3, e4, e5, e6, g2, g3, g4, g5]

/-- A point's block of the result. -/
def oblk (t : Fin cfg0.N) : FVec Ideal S1024x1024 .f32 :=
  out0_7 (iblk m c 0 t) (iblk m c 1 t) (iblk m c 2 t) (iblk m c 3 t) (iblk m c 4 t) (iblk m c 5 t) (iblk m c 6 t)

/-- It is what the body leaves. -/
theorem after7 (t : Fin cfg0.N) : (dats m 0 c).after 7 t = oblk m c t := after0_7 m c t

/-- A point's block at an index. -/
theorem oblk_at (t : Fin cfg0.N) (r k : Fin 1024) (R : Fin 32768) (h : R.val = t.val * 1024 + r.val) :
    oblk m c t (ix2 r k) = postArr m c (ix2 R k) := by
  have ht := lt_N t
  refine (out_at _ _ _ _ _ _ _ _).trans ?_
  unfold postArr
  exact congrFun (row_eq m c t r ⟨R.val / 8192, by omega⟩ ⟨R.val % 8192, by omega⟩ (by show R.val / 8192 = _; omega) (by show R.val % 8192 = _; omega)) k

/-- The result's blocks cover it. -/
theorem covers7 : win0_7.Covers := by decide +kernel

/-- The result array is any array each point's block agrees with. -/
theorem result_of (G : FVec Ideal S32768x1024 .f32)
    (h : ∀ (t : Fin cfg0.N) (r k : Fin 1024), oblk m c t (ix2 r k) = G (ix2 ⟨t.val * 1024 + r.val, by have := lt_N t; omega⟩ k)) :
    (dats m 0 c).arrAt 7 cfg0.N = G := by
  refine (dats m 0 c).arrAt_eq_of_covers 7 G covers7 fun t hf y => ?_
  have ht := lt_N t
  have hi : ((cfg0.win 7).blk t).view.emb y = (ix2 ⟨t.val * 1024 + (y 0).val, by have : (y 0).val < 1024 := (y 0).isLt; omega⟩ ⟨(y 1).val, (y 1).isLt⟩ : S32768x1024.Idx) := by
    blk_ext [idx7]
  have hx : (cfg0.win 7).xinj (cfg0.grid.coords t) y = (ix2 ⟨(y 0).val, (y 0).isLt⟩ ⟨(y 1).val, (y 1).isLt⟩ : S1024x1024.Idx) := by
    blk_ext [idx7]
  rw [hi, hx, after7]
  exact (cast_eq _ _).trans (h t ⟨(y 0).val, (y 0).isLt⟩ ⟨(y 1).val, (y 1).isLt⟩)

/-- The result array is the layer's rows. -/
theorem result : (dats m 0 c).arrAt 7 cfg0.N = postArr m c :=
  result_of m c (postArr m c) fun t r k => oblk_at m c t r k ⟨t.val * 1024 + r.val, by have := lt_N t; omega⟩ rfl

end Cert.Kernel2Ideal.Post

end
-- ==== Proof.PostRef.lean ====
module

public import proofs.«01_k».proof.Proof.Gen.Reference2Ideal.Run
public import proofs.«01_k».proof.Proof.PostSpec

@[expose] public section

set_option maxRecDepth 16384

noncomputable section

namespace Cert.Reference2Ideal.Post

open Idealize.ShloMosaic Idealize.ShloMosaic.TcCoe
open Cert.Reference2Ideal.Gen
open Cert.PostSpec

/-- The word of the number 1. -/
theorem word_one : Ideal.ofBits FTy.f32 0x3F800000#32 = 1 := by
  simp [Ideal.ofBits, Ideal.ieee, -EReal.coe_mul]; norm_num

/-- A modulation vector over all positions. -/
def modV (v : FVec Ideal S4x1x1024 .f32) : FVec Ideal S4x8192x1024 .f32 :=
  broadcastInDim S4x8192x1024 ![0, 1, 2] bcast_S4x1x1024_S4x8192x1024_0_1_2 v

/-- A vector per batch entry, with an axis of positions. -/
def axV (v : FVec Ideal S4x1024 .f32) : FVec Ideal S4x1x1024 .f32 := broadcastInDim S4x1x1024 ![0, 2] bcast_S4x1024_S4x1x1024_0_2 v

/-- A gain over all positions. -/
def gainV (g : FVec Ideal S1x1024 .f32) : FVec Ideal S4x8192x1024 .f32 :=
  broadcastInDim S4x8192x1024 ![0, 1, 2] bcast_S1x1x1024_S4x8192x1024_0_1_2
    (broadcastInDim S1x1x1024 ![2] bcast_S1024_S1x1x1024_2 (shapeCast S1024 g shapeCasts_S1x1024_S1024 : FVec Ideal S1024 .f32))

/-- The sums of squares. -/
def sqV (y : FVec Ideal S4x8192x1024 .f32) : FVec Ideal S4x8192 .f32 :=
  Host.reduceAdd (mulf y y) (constant S_ .f32 0x00000000#32) reducesTo_S4x8192x1024_S4x8192_d2 h_S_

/-- The normalised rows, from the sums of squares. -/
def nrmV' (y : FVec Ideal S4x8192x1024 .f32) (s : FVec Ideal S4x8192 .f32) (g : FVec Ideal S1x1024 .f32) : FVec Ideal S4x8192x1024 .f32 :=
  mulf (mulf y (broadcastInDim S4x8192x1024 ![0, 1, 2] bcast_S4x8192x1_S4x8192x1024_0_1_2 (Host.rsqrt (addf (Host.divf
    (broadcastInDim S4x8192x1 ![0, 1] bcast_S4x8192_S4x8192x1_0_1 s)
    (broadcastInDim S4x8192x1 ![] bcast_S_S4x8192x1 (constant S_ .f32 0x44800000#32))) (broadcastInDim S4x8192x1 ![] bcast_S_S4x8192x1 (constant S_ .f32 0x358637BD#32))))))
    (gainV g)

/-- The normalised rows. -/
def nrmV (y : FVec Ideal S4x8192x1024 .f32) (g : FVec Ideal S1x1024 .f32) : FVec Ideal S4x8192x1024 .f32 := nrmV' y (sqV y) g

/-- Rows plus a gate times normalised rows. -/
def resV (x y : FVec Ideal S4x8192x1024 .f32) (gate : FVec Ideal S4x1024 .f32) (g : FVec Ideal S1x1024 .f32) : FVec Ideal S4x8192x1024 .f32 :=
  addf x (mulf (modV (axV gate)) (nrmV y g))

/-- Rows normalised, scaled and shifted. -/
def hidV (x : FVec Ideal S4x8192x1024 .f32) (g : FVec Ideal S1x1024 .f32) (sc sh : FVec Ideal S4x1024 .f32) : FVec Ideal S4x8192x1024 .f32 :=
  addf (mulf (nrmV x g) (modV (addf (broadcastInDim S4x1x1024 ![] bcast_S_S4x1x1024 (constant S_ .f32 0x3F800000#32)) (axV sc)))) (modV (axV sh))

/-- Rows times the output projection. -/
def projV (o : FVec Ideal S4x8192x1024 .f32) (w : FVec Ideal S1024x1024 .f32) : FVec Ideal S4x8192x1024 .f32 :=
  Host.dotGeneral dot_S4x8192x1024_S1024x1024_S4x8192x1024_2_0_01_1_n_n none o w

/-- Rows times the first matrix, -/
def upV (h : FVec Ideal S4x8192x1024 .f32) (w : FVec Ideal S1x1024x4096 .f32) : FVec Ideal S4x8192x4096 .f32 :=
  Host.dotGeneral dot_S4x8192x1024_S1024x4096_S4x8192x4096_2_0_01_1_n_n none h (shapeCast S1024x4096 w shapeCasts_S1x1024x4096_S1024x4096 : FVec Ideal S1024x4096 .f32)

/-- the squares of the positive parts, -/
def actV (a : FVec Ideal S4x8192x4096 .f32) : FVec Ideal S4x8192x4096 .f32 :=
  mulf (maximumf a (broadcastInDim S4x8192x4096 ![] bcast_S_S4x8192x4096 (constant S_ .f32 0x00000000#32)))
    (maximumf a (broadcastInDim S4x8192x4096 ![] bcast_S_S4x8192x4096 (constant S_ .f32 0x00000000#32)))

/-- and those times the second. -/
def downV (a : FVec Ideal S4x8192x4096 .f32) (w : FVec Ideal S1x4096x1024 .f32) : FVec Ideal S4x8192x1024 .f32 :=
  Host.dotGeneral dot_S4x8192x4096_S4096x1024_S4x8192x1024_2_0_01_1_n_n none a (shapeCast S4096x1024 w shapeCasts_S1x4096x1024_S4096x1024 : FVec Ideal S4096x1024 .f32)

/-- A row of the gains. -/
def ngV (ng : FVec Ideal S4x1024 .f32) (j : ℕ) (h : S4x1024.Slices ![j, 0] S1x1024) : FVec Ideal S1x1024 .f32 := extractStridedSlice S1x1024 ![j, 0] ng h

/-- A modulation vector. -/
def adaV (ada : FVec Ideal S4x6144 .f32) (j : ℕ) (h : S4x6144.Slices ![0, j] S4x1024) : FVec Ideal S4x1024 .f32 := extractStridedSlice S4x1024 ![0, j] ada h

variable (x o : FVec Ideal S4x8192x1024 .f32) (ada : FVec Ideal S4x6144 .f32) (ng : FVec Ideal S4x1024 .f32) (wo : FVec Ideal S1024x1024 .f32)
  (w1 : FVec Ideal S2x1024x4096 .f32) (w2 : FVec Ideal S2x4096x1024 .f32)

/-- The residual stream after the attention's residual. -/
def x1V : FVec Ideal S4x8192x1024 .f32 :=
  resV x (projV o wo) (adaV ada 2048 slices_S4x6144_S4x1024_0_2048) (ngV ng 1 slices_S4x1024_S1x1024_1_0)

/-- The feed-forward part's input. -/
def hV : FVec Ideal S4x8192x1024 .f32 :=
  hidV (x1V x o ada ng wo) (ngV ng 2 slices_S4x1024_S1x1024_2_0) (adaV ada 4096 slices_S4x6144_S4x1024_0_4096) (adaV ada 3072 slices_S4x6144_S4x1024_0_3072)

/-- The feed-forward part's output. -/
def ffV : FVec Ideal S4x8192x1024 .f32 :=
  downV (actV (upV (hV x o ada ng wo) (extractStridedSlice S1x1024x4096 ![1, 0, 0] w1 slices_S2x1024x4096_S1x1024x4096_1_0_0)))
    (extractStridedSlice S1x4096x1024 ![1, 0, 0] w2 slices_S2x4096x1024_S1x4096x1024_1_0_0)

/-- The layer's result. -/
def outV : FVec Ideal S4x8192x1024 .f32 :=
  resV (x1V x o ada ng wo) (ffV x o ada ng wo w1 w2) (adaV ada 5120 slices_S4x6144_S4x1024_0_5120) (ngV ng 3 slices_S4x1024_S1x1024_3_0)

/-- A modulation vector over all positions, at an index. -/
theorem mod_at (v : FVec Ideal S4x1x1024 .f32) (b : Fin 4) (s : Fin 8192) (k : Fin 1024) : modV v (ix3 b s k) = v (ix3 b 0 k) := by
  unfold modV
  pointwise

/-- A vector with an axis of positions, at an index. -/
theorem ax_at (v : FVec Ideal S4x1024 .f32) (b : Fin 4) (z : Fin 1) (k : Fin 1024) : axV v (ix3 b z k) = v (ix2 b k) := by
  unfold axV
  pointwise

/-- A gain at an index. -/
theorem gain_at (g : FVec Ideal S1x1024 .f32) (b : Fin 4) (s : Fin 8192) (k : Fin 1024) : gainV g (ix3 b s k) = g (ix2 0 k) := by
  unfold gainV
  pointwise

/-- A sum of squares at an index. -/
theorem sq_at (y : FVec Ideal S4x8192x1024 .f32) (b : Fin 4) (s : Fin 8192) : sqV y (ix2 b s) = ∑ k, y (ix3 b s k) * y (ix3 b s k) := by
  unfold sqV
  pointwise

/-- The normalised rows at an index, from the sums of squares. -/
theorem nrm'_at (y : FVec Ideal S4x8192x1024 .f32) (q : FVec Ideal S4x8192 .f32) (g : FVec Ideal S1x1024 .f32) (b : Fin 4) (s : Fin 8192) (k : Fin 1024) :
    nrmV' y q g (ix3 b s k) = y (ix3 b s k) * Ideal.rsqrt (Ideal.div (q (ix2 b s)) (Ideal.ofBits .f32 0x44800000#32) + Ideal.ofBits .f32 0x358637BD#32) * g (ix2 0 k) := by
  unfold nrmV'
  rw [← gain_at g b s k]
  generalize gainV g = G
  pointwise

/-- The normalised rows at an index. -/
theorem nrm_at (y : FVec Ideal S4x8192x1024 .f32) (g : FVec Ideal S1x1024 .f32) (b : Fin 4) (s : Fin 8192) (k : Fin 1024) :
    nrmV y g (ix3 b s k) = rowNorm (fun k => y (ix3 b s k)) (fun k => g (ix2 0 k)) k := by
  unfold nrmV rowNorm
  rw [nrm'_at, sq_at]

/-- Rows after their residual at an index. -/
theorem res_at (x y : FVec Ideal S4x8192x1024 .f32) (gate : FVec Ideal S4x1024 .f32) (g : FVec Ideal S1x1024 .f32) (b : Fin 4) (s : Fin 8192) (k : Fin 1024) :
    resV x y gate g (ix3 b s k) = resRow (fun k => x (ix3 b s k)) (fun k => y (ix3 b s k)) (fun k => gate (ix2 b k)) (fun k => g (ix2 0 k)) k := by
  unfold resV resRow
  refine Eq.trans (b := x (ix3 b s k) + modV (axV gate) (ix3 b s k) * nrmV y g (ix3 b s k)) rfl ?_
  rw [mod_at, ax_at, nrm_at]

/-- Modulated rows at an index. -/
theorem hid_at (x : FVec Ideal S4x8192x1024 .f32) (g : FVec Ideal S1x1024 .f32) (sc sh : FVec Ideal S4x1024 .f32) (b : Fin 4) (s : Fin 8192) (k : Fin 1024) :
    hidV x g sc sh (ix3 b s k) = rowMod (fun k => x (ix3 b s k)) (fun k => g (ix2 0 k)) (fun k => sc (ix2 b k)) (fun k => sh (ix2 b k)) k := by
  unfold hidV rowMod
  have e : (addf (broadcastInDim S4x1x1024 ![] bcast_S_S4x1x1024 (constant S_ .f32 0x3F800000#32)) (axV sc) : FVec Ideal S4x1x1024 .f32) (ix3 b 0 k) = 1 + sc (ix2 b k) := by
    rw [← ax_at sc b 0 k, ← word_one]
    generalize axV sc = a
    pointwise
  generalize (addf (broadcastInDim S4x1x1024 ![] bcast_S_S4x1x1024 (constant S_ .f32 0x3F800000#32)) (axV sc) : FVec Ideal S4x1x1024 .f32) = a at *
  refine Eq.trans (b := nrmV x g (ix3 b s k) * modV a (ix3 b s k) + modV (axV sh) (ix3 b s k)) rfl ?_
  rw [mod_at, mod_at, ax_at, nrm_at, e]

/-- The output projection at an index. -/
theorem proj_at (o : FVec Ideal S4x8192x1024 .f32) (w : FVec Ideal S1024x1024 .f32) (b : Fin 4) (s : Fin 8192) (k : Fin 1024) :
    projV o w (ix3 b s k) = rowMul (fun k => o (ix3 b s k)) (fun k c => w (ix2 k c)) k := by
  unfold projV rowMul
  pointwise

/-- The product with the first matrix at an index. -/
theorem up_at (h : FVec Ideal S4x8192x1024 .f32) (w : FVec Ideal S1x1024x4096 .f32) (b : Fin 4) (s : Fin 8192) (f : Fin 4096) :
    upV h w (ix3 b s f) = rowMul (fun k => h (ix3 b s k)) (fun k f => w (ix3 0 k f)) f := by
  unfold upV rowMul
  pointwise

/-- The squares of the positive parts at an index. -/
theorem act_at (a : FVec Ideal S4x8192x4096 .f32) (b : Fin 4) (s : Fin 8192) (f : Fin 4096) : actV a (ix3 b s f) = relu2 (a (ix3 b s f)) := by
  unfold actV relu2
  pointwise

/-- The product with the second matrix at an index. -/
theorem down_at (a : FVec Ideal S4x8192x4096 .f32) (w : FVec Ideal S1x4096x1024 .f32) (b : Fin 4) (s : Fin 8192) (k : Fin 1024) :
    downV a w (ix3 b s k) = ∑ f, a (ix3 b s f) * w (ix3 0 f k) := by
  unfold downV
  pointwise

/-- A row of the gains at an index. -/
theorem ng_at (ng : FVec Ideal S4x1024 .f32) (j : Fin 4) (h : S4x1024.Slices ![j.val, 0] S1x1024) (k : Fin 1024) :
    ngV ng j.val h (ix2 0 k) = ng (ix2 j k) := by
  unfold ngV
  pointwise

/-- A modulation vector at an index. -/
theorem ada_at (ada : FVec Ideal S4x6144 .f32) (j : ℕ) (h : S4x6144.Slices ![0, j] S4x1024) (hj : j + 1024 ≤ 6144) (b : Fin 4) (k : Fin 1024) :
    adaV ada j h (ix2 b k) = ada (ix2 b ⟨j + k.val, by omega⟩) := by
  unfold adaV
  pointwise

/-- The second layer's first matrix, -/
theorem w1_at (w1 : FVec Ideal S2x1024x4096 .f32) (k : Fin 1024) (f : Fin 4096) :
    (extractStridedSlice S1x1024x4096 ![1, 0, 0] w1 slices_S2x1024x4096_S1x1024x4096_1_0_0 : FVec Ideal S1x1024x4096 .f32) (ix3 0 k f) = w1 (ix3 1 k f) := by
  pointwise

/-- and its second. -/
theorem w2_at (w2 : FVec Ideal S2x4096x1024 .f32) (f : Fin 4096) (k : Fin 1024) :
    (extractStridedSlice S1x4096x1024 ![1, 0, 0] w2 slices_S2x4096x1024_S1x4096x1024_1_0_0 : FVec Ideal S1x4096x1024 .f32) (ix3 0 f k) = w2 (ix3 1 f k) := by
  pointwise

/-- The layer's result at an index. -/
theorem out_at (b : Fin 4) (s : Fin 8192) (k : Fin 1024) : outV x o ada ng wo w1 w2 (ix3 b s k) = postAt x o ada ng wo w1 w2 b s k := by
  have n1 := fun k => ng_at ng 1 slices_S4x1024_S1x1024_1_0 k
  have n2 := fun k => ng_at ng 2 slices_S4x1024_S1x1024_2_0 k
  have n3 := fun k => ng_at ng 3 slices_S4x1024_S1x1024_3_0 k
  have a2 := fun k => ada_at ada 2048 slices_S4x6144_S4x1024_0_2048 (by norm_num) b k
  have a3 := fun k => ada_at ada 3072 slices_S4x6144_S4x1024_0_3072 (by norm_num) b k
  have a4 := fun k => ada_at ada 4096 slices_S4x6144_S4x1024_0_4096 (by norm_num) b k
  have a5 := fun k => ada_at ada 5120 slices_S4x6144_S4x1024_0_5120 (by norm_num) b k
  have ex : (fun k => x1V x o ada ng wo (ix3 b s k))
      = resRow (fun k => x (ix3 b s k)) (rowMul (fun k => o (ix3 b s k)) (fun k c => wo (ix2 k c))) (fun k => ada (ix2 b ⟨2048 + k.val, by omega⟩)) (fun k => ng (ix2 1 k)) := by
    funext k
    unfold x1V
    refine (res_at _ _ _ _ b s k).trans ?_
    simp only [proj_at, a2]
    exact congrArg (fun g => resRow _ _ _ g k) (funext n1)
  have eh : (fun k => hV x o ada ng wo (ix3 b s k)) = rowMod (fun k => x1V x o ada ng wo (ix3 b s k)) (fun k => ng (ix2 2 k))
      (fun k => ada (ix2 b ⟨4096 + k.val, by omega⟩)) (fun k => ada (ix2 b ⟨3072 + k.val, by omega⟩)) := by
    funext k
    unfold hV
    refine (hid_at _ _ _ _ b s k).trans ?_
    simp only [a4, a3]
    exact congrArg (fun g => rowMod _ g _ _ k) (funext n2)
  have ef : (fun k => ffV x o ada ng wo w1 w2 (ix3 b s k)) = rowFF (fun k => hV x o ada ng wo (ix3 b s k)) (fun k f => w1 (ix3 1 k f)) (fun f c => w2 (ix3 1 f c)) := by
    funext k
    unfold ffV rowFF
    simp only [down_at, act_at, up_at, w1_at, w2_at]
  unfold outV postAt rowOut
  refine (res_at _ _ _ _ b s k).trans ?_
  rw [ef, eh, ex, funext a5]
  exact congrArg (fun g => resRow _ _ _ g k) (funext n3)

variable (m : (ℓ : Loc nD τ sig) → Buf (Elt Ideal) ℓ) (c : Dev nD)

/-- The argument arrays: the residual stream, -/
def arg0 : FVec Ideal S4x8192x1024 .f32 := m ((c : Thread nD τ).loc main_arg0)
/-- the attention's output, -/
def arg1 : FVec Ideal S4x8192x1024 .f32 := m ((c : Thread nD τ).loc main_arg1)
/-- the modulation vectors, -/
def arg2 : FVec Ideal S4x6144 .f32 := m ((c : Thread nD τ).loc main_arg2)
/-- the gains of the norms, -/
def arg3 : FVec Ideal S4x1024 .f32 := m ((c : Thread nD τ).loc main_arg3)
/-- the output projection, -/
def arg4 : FVec Ideal S1024x1024 .f32 := m ((c : Thread nD τ).loc main_arg4)
/-- the feed-forward part's first matrices -/
def arg5 : FVec Ideal S2x1024x4096 .f32 := m ((c : Thread nD τ).loc main_arg5)
/-- and its second ones. -/
def arg6 : FVec Ideal S2x4096x1024 .f32 := m ((c : Thread nD τ).loc main_arg6)

/-- The reference's result is the layer's, by rows. -/
theorem res_eq : Value.res_main_v76 m c
    = (shapeCast S32768x1024 (outV (arg0 m c) (arg1 m c) (arg2 m c) (arg3 m c) (arg4 m c) (arg5 m c) (arg6 m c)) shapeCasts_S4x8192x1024_S32768x1024 : FVec Ideal S32768x1024 .f32) := by
  unfold Value.res_main_v76 outV ffV hV x1V resV hidV downV actV upV projV nrmV nrmV' sqV gainV modV axV ngV adaV arg0 arg1 arg2 arg3 arg4 arg5 arg6
  rfl

/-- A row of a reshaped array. -/
theorem rows_at (v : FVec Ideal S4x8192x1024 .f32) (R : Fin 32768) (k : Fin 1024) :
    (shapeCast S32768x1024 v shapeCasts_S4x8192x1024_S32768x1024 : FVec Ideal S32768x1024 .f32) (ix2 R k)
      = v (ix3 ⟨R.val / 8192, by omega⟩ ⟨R.val % 8192, by omega⟩ k) := by
  pointwise

/-- The reference's result at an index. -/
theorem ref_at (R : Fin 32768) (k : Fin 1024) : (Value.res_main_v76 m c : FVec Ideal S32768x1024 .f32) (ix2 R k)
    = postAt (arg0 m c) (arg1 m c) (arg2 m c) (arg3 m c) (arg4 m c) (arg5 m c) (arg6 m c) ⟨R.val / 8192, by omega⟩ ⟨R.val % 8192, by omega⟩ k := by
  rw [res_eq]
  exact (rows_at _ R k).trans (out_at _ _ _ _ _ _ _ _ _ k)

end Cert.Reference2Ideal.Post

end
-- ==== Proof.InSpec.lean ====
module

public import proofs.«01_k».proof.Proof.PostSpec

@[expose] public section

noncomputable section

namespace Cert.InSpec

open Idealize.ShloMosaic
open Cert.PostSpec

variable (x : FVec Ideal ⟨3, ![4, 8192, 1024]⟩ .f32) (g : FVec Ideal ⟨1, ![1024]⟩ .f32) (sh sc : FVec Ideal ⟨2, ![4, 1024]⟩ .f32)
  (w : FVec Ideal ⟨2, ![1024, 3088]⟩ .f32)

/-- The projected features at position `s` of batch entry `b`: the row is normalised, modulated and multiplied. -/
def projAt (b : Fin 4) (s : Fin 8192) : Fin 3088 → EReal :=
  rowMul (rowMod (fun k => x (ix3 b s k)) (fun k => g (ix1 k)) (fun k => sc (ix2 b k)) (fun k => sh (ix2 b k))) (fun k j => w (ix2 k j))

/-- The scaled keys, by rows of all batch entries. -/
def keyAt (R : Fin 32768) (j : Fin 512) : EReal :=
  projAt x g sh sc w ⟨R.val / 8192, by omega⟩ ⟨R.val % 8192, by omega⟩ ⟨512 + j.val, by omega⟩ * Ideal.ofBits .f32 0x3E000000#32

/-- `n` features from the `o`-th on. -/
def colAt (n o : ℕ) (h : o + n ≤ 3088) (b : Fin 4) (j : Fin n) (s : Fin 8192) : EReal := projAt x g sh sc w b s ⟨o + j.val, by omega⟩

end Cert.InSpec

end
-- ==== Proof.InVec.lean ====
module

public import proofs.«01_k».proof.Proof.Gen.Kernel3Ideal.Frame
public import proofs.«01_k».proof.Proof.InSpec
public import Idealize.ShloMosaic.Lib.Pipeline.ValueKit

@[expose] public section

set_option maxRecDepth 16384

noncomputable section

namespace Cert.Kernel3Ideal.In

open Idealize.ShloMosaic Idealize.ShloMosaic.TcCoe
open Cert.Kernel3Ideal.Gen
open Cert.PostSpec

section Any

variable {F : FTy → Type} [FloatOps F]

/-- The sums of squares of 512 rows. -/
def sq (y : FVec F S512x1024 .f32) : FVec F S512 .f32 :=
  multiReduction .add [1] S512 (mulf y y) 0x00000000#32 reduces_S512x1024_S512 (.inl rfl) rfl

/-- The normalised rows, from the sums of squares, times a gain. -/
def nrm (y : FVec F S512x1024 .f32) (s : FVec F S512 .f32) (g : FVec F S1x1024 .f32) : FVec F S512x1024 .f32 :=
  mulf (mulf y (broadcastTo S512x1024 (rsqrt (addf (divf (shapeCast S512x1 s shapeCasts_S512_S512x1 : FVec F S512x1 .f32)
      (broadcast S512x1 (Scalar.ofBits .f32 0x44800000#32))) (broadcast S512x1 (Scalar.ofBits .f32 0x358637BD#32)))) broadcasts_S512x1_S512x1024))
    (broadcastTo S512x1024 g broadcasts_S1x1024_S512x1024)

/-- Rows scaled and shifted. -/
def mdl (n : FVec F S512x1024 .f32) (sc sh : Vec F S1x1x1024 .f32) : FVec F S512x1024 .bf16 :=
  truncf .bf16 (addf (mulf n (broadcastTo S512x1024 (addf (broadcast S1x1024 (Scalar.ofBits .f32 0x3F800000#32))
      (shapeCast S1x1024 sc shapeCasts_S1x1x1024_S1x1024 : FVec F S1x1024 .f32)) broadcasts_S1x1024_S512x1024))
    (broadcastTo S512x1024 (shapeCast S1x1024 sh shapeCasts_S1x1x1024_S1x1024 : FVec F S1x1024 .f32) broadcasts_S1x1024_S512x1024)) bitsLt_bf16_f32

/-- Rows normalised, scaled and shifted. -/
def hid (x : Vec F S512x1024 .f32) (g : Vec F S1x1024 .f32) (sc sh : Vec F S1x1x1024 .f32) : FVec F S512x1024 .bf16 :=
  mdl (nrm (shapeCast S512x1024 x shapeCasts_S512x1024_S512x1024 : FVec F S512x1024 .f32)
    (sq (shapeCast S512x1024 x shapeCasts_S512x1024_S512x1024 : FVec F S512x1024 .f32)) (shapeCast S1x1024 g shapeCasts_S1x1024_S1x1024 : FVec F S1x1024 .f32)) sc sh

/-- The scaled keys of 512 rows. -/
def keys (h : FVec F S512x1024 .bf16) (w : Vec F S1024x512 .bf16) : FVec F S512x512 .bf16 :=
  truncf .bf16 (mulf (matmul (φ₁ := .bf16) (φ₂ := .bf16) dot_S512x1024_S1024x512_S512x512_1_0_0_1_n_n none h (shapeCast S1024x512 w shapeCasts_S1024x512_S1024x512 : FVec F S1024x512 .bf16)
    (constant S512x512 .f32 0x00000000#32)) (broadcast S512x512 (Scalar.ofBits .f32 0x3E000000#32))) bitsLt_bf16_f32

/-- The other features of 512 rows, features first. -/
def feat (h : FVec F S512x1024 .bf16) (w : Vec F S2576x1024 .bf16) : FVec F S2576x512 .f32 :=
  matmul (φ₁ := .bf16) (φ₂ := .bf16) dot_S2576x1024_S512x1024_S2576x512_1_1_0_0_n_n none (shapeCast S2576x1024 w shapeCasts_S2576x1024_S2576x1024 : FVec F S2576x1024 .bf16) h
    (constant S2576x512 .f32 0x00000000#32)

/-- The queries among them, -/
def qs (f : FVec F S2576x512 .f32) : FVec F S1x512x512 .bf16 :=
  shapeCast S1x512x512 (truncf .bf16 (extractStridedSlice S512x512 ![0, 0] f slices_S2576x512_o0_0_S512x512 : FVec F S512x512 .f32) bitsLt_bf16_f32 : FVec F S512x512 .bf16) shapeCasts_S512x512_S1x512x512
/-- the values, -/
def vs (f : FVec F S2576x512 .f32) : FVec F S1x1024x512 .bf16 :=
  shapeCast S1x1024x512 (truncf .bf16 (extractStridedSlice S1024x512 ![512, 0] f slices_S2576x512_o512_0_S1024x512 : FVec F S1024x512 .f32) bitsLt_bf16_f32 : FVec F S1024x512 .bf16) shapeCasts_S1024x512_S1x1024x512
/-- the output gates -/
def os (f : FVec F S2576x512 .f32) : FVec F S1x1024x512 .bf16 :=
  shapeCast S1x1024x512 (truncf .bf16 (extractStridedSlice S1024x512 ![1536, 0] f slices_S2576x512_o1536_0_S1024x512 : FVec F S1024x512 .f32) bitsLt_bf16_f32 : FVec F S1024x512 .bf16) shapeCasts_S1024x512_S1x1024x512
/-- and the gates. -/
def gs (f : FVec F S2576x512 .f32) : FVec F S1x16x512 .f32 :=
  shapeCast S1x16x512 (extractStridedSlice S16x512 ![2560, 0] f slices_S2576x512_o2560_0_S16x512 : FVec F S16x512 .f32) shapeCasts_S16x512_S1x16x512

variable (x0 : Vec F S1024x1024 .f32) (x1 : Vec F S1x1024 .f32) (x2 : Vec F S1x8x1024 .f32) (x3 : Vec F S1024x512 .bf16) (x4 : Vec F S2576x1024 .bf16)

/-- A point's block of the keys is two pieces. -/
theorem out5_eq : out0_5 x0 x1 x2 x3 x4 = View.canon
    [⟨r0_11, keys (hid (View.ld x0 r0_10) (View.ld x1 r0_1) (View.ld x2 r0_2) (View.ld x2 r0_3)) (View.ld x3 r0_4)⟩,
      ⟨r0_5, keys (hid (View.ld x0 r0_0) (View.ld x1 r0_1) (View.ld x2 r0_2) (View.ld x2 r0_3)) (View.ld x3 r0_4)⟩] := by
  unfold_out out0_5
  rfl

/-- A point's block of the queries. -/
theorem out6_eq : out0_6 x0 x1 x2 x3 x4 = View.canon
    [⟨r0_12, qs (feat (hid (View.ld x0 r0_10) (View.ld x1 r0_1) (View.ld x2 r0_2) (View.ld x2 r0_3)) (View.ld x4 r0_6))⟩,
      ⟨r0_7, qs (feat (hid (View.ld x0 r0_0) (View.ld x1 r0_1) (View.ld x2 r0_2) (View.ld x2 r0_3)) (View.ld x4 r0_6))⟩] := by
  unfold_out out0_6
  rfl

/-- A point's block of the values. -/
theorem out7_eq : out0_7 x0 x1 x2 x3 x4 = View.canon
    [⟨r0_13, vs (feat (hid (View.ld x0 r0_10) (View.ld x1 r0_1) (View.ld x2 r0_2) (View.ld x2 r0_3)) (View.ld x4 r0_6))⟩,
      ⟨r0_8, vs (feat (hid (View.ld x0 r0_0) (View.ld x1 r0_1) (View.ld x2 r0_2) (View.ld x2 r0_3)) (View.ld x4 r0_6))⟩] := by
  unfold_out out0_7
  rfl

/-- A point's block of the output gates. -/
theorem out8_eq : out0_8 x0 x1 x2 x3 x4 = View.canon
    [⟨r0_13, os (feat (hid (View.ld x0 r0_10) (View.ld x1 r0_1) (View.ld x2 r0_2) (View.ld x2 r0_3)) (View.ld x4 r0_6))⟩,
      ⟨r0_8, os (feat (hid (View.ld x0 r0_0) (View.ld x1 r0_1) (View.ld x2 r0_2) (View.ld x2 r0_3)) (View.ld x4 r0_6))⟩] := by
  unfold_out out0_8
  rfl

/-- A point's block of the gates. -/
theorem out9_eq : out0_9 x0 x1 x2 x3 x4 = View.canon
    [⟨r0_14, gs (feat (hid (View.ld x0 r0_10) (View.ld x1 r0_1) (View.ld x2 r0_2) (View.ld x2 r0_3)) (View.ld x4 r0_6))⟩,
      ⟨r0_9, gs (feat (hid (View.ld x0 r0_0) (View.ld x1 r0_1) (View.ld x2 r0_2) (View.ld x2 r0_3)) (View.ld x4 r0_6))⟩] := by
  unfold_out out0_9
  rfl

end Any

/-- A load of part of a buffer of rank 3, read at an index. -/
theorem ld3 {A B C a b c o0 o1 o2 : ℕ} {φ : EltTy} (v : Vec Ideal ⟨3, ![A, B, C]⟩ φ) (inb) (i : Fin a) (j : Fin b) (k : Fin c)
    (i' : Fin A) (j' : Fin B) (k' : Fin C) (h0 : i'.val = o0 + i.val) (h1 : j'.val = o1 + j.val) (h2 : k'.val = o2 + k.val) :
    View.ld v (Rect.unit (s := ⟨3, ![A, B, C]⟩) ![o0, o1, o2] ![a, b, c] inb) (ix3 i j k) = v (ix3 i' j' k') := by
  refine congrArg v (funext fun d => Fin.ext ((Rect.idx_unit_val _ _ _ _ _).trans ?_))
  fin_cases d
  · exact h0.symm
  · exact h1.symm
  · exact h2.symm

/-- A load of part of a buffer of rank 2, read at an index. -/
theorem ld2 {A B a b o0 o1 : ℕ} {φ : EltTy} (v : Vec Ideal ⟨2, ![A, B]⟩ φ) (inb) (i : Fin a) (j : Fin b)
    (i' : Fin A) (j' : Fin B) (h0 : i'.val = o0 + i.val) (h1 : j'.val = o1 + j.val) :
    View.ld v (Rect.unit (s := ⟨2, ![A, B]⟩) ![o0, o1] ![a, b] inb) (ix2 i j) = v (ix2 i' j') := by
  refine congrArg v (funext fun d => Fin.ext ((Rect.idx_unit_val _ _ _ _ _).trans ?_))
  fin_cases d
  · exact h0.symm
  · exact h1.symm

/-- The word of the number 1. -/
theorem word_one : Ideal.ofBits FTy.f32 0x3F800000#32 = 1 := by
  simp [Ideal.ofBits, Ideal.ieee, -EReal.coe_mul]; norm_num

/-- The sum of squares at an index. -/
theorem sq_at (y : FVec Ideal S512x1024 .f32) (r : Fin 512) : sq y (ix1 r) = ∑ k, y (ix2 r k) * y (ix2 r k) := by
  unfold sq
  pointwise

/-- The normalised rows at an index. -/
theorem nrm_at (y : FVec Ideal S512x1024 .f32) (s : FVec Ideal S512 .f32) (g : FVec Ideal S1x1024 .f32) (r : Fin 512) (c : Fin 1024) :
    nrm y s g (ix2 r c) = y (ix2 r c) * Ideal.rsqrt (Ideal.div (s (ix1 r)) (Ideal.ofBits .f32 0x44800000#32) + Ideal.ofBits .f32 0x358637BD#32) * g (ix2 0 c) := by
  unfold nrm
  pointwise

/-- Modulated rows at an index. -/
theorem mdl_at (n : FVec Ideal S512x1024 .f32) (sc sh : Vec Ideal S1x1x1024 .f32) (r : Fin 512) (c : Fin 1024) :
    mdl n sc sh (ix2 r c) = n (ix2 r c) * (Ideal.ofBits .f32 0x3F800000#32 + sc (ix3 0 0 c)) + sh (ix3 0 0 c) := by
  unfold mdl
  pointwise

/-- Rows normalised, scaled and shifted, at an index. -/
theorem hid_at (x : Vec Ideal S512x1024 .f32) (g : Vec Ideal S1x1024 .f32) (sc sh : Vec Ideal S1x1x1024 .f32) (r : Fin 512) (c : Fin 1024) :
    hid x g sc sh (ix2 r c)
      = rowMod (fun k => x (ix2 r k)) (fun c => g (ix2 0 c)) (fun c => sc (ix3 0 0 c)) (fun c => sh (ix3 0 0 c)) c := by
  have hx : ∀ k : Fin 1024, (shapeCast S512x1024 x shapeCasts_S512x1024_S512x1024 : FVec Ideal S512x1024 .f32) (ix2 r k) = x (ix2 r k) := fun k => by
    pointwise
  have hg : ∀ k : Fin 1024, (shapeCast S1x1024 g shapeCasts_S1x1024_S1x1024 : FVec Ideal S1x1024 .f32) (ix2 0 k) = g (ix2 0 k) := fun k => by
    pointwise
  unfold hid rowMod rowNorm
  rw [mdl_at, nrm_at, sq_at, word_one]
  simp only [hx, hg]

/-- The scaled keys at an index. -/
theorem keys_at (h : FVec Ideal S512x1024 .bf16) (w : Vec Ideal S1024x512 .bf16) (r c : Fin 512) :
    keys h w (ix2 r c) = rowMul (fun k => h (ix2 r k)) (fun k c => w (ix2 k c)) c * Ideal.ofBits .f32 0x3E000000#32 := by
  unfold keys rowMul
  pointwise

/-- The other features at an index. -/
theorem feat_at (h : FVec Ideal S512x1024 .bf16) (w : Vec Ideal S2576x1024 .bf16) (f : Fin 2576) (r : Fin 512) :
    feat h w (ix2 f r) = rowMul (fun k => h (ix2 r k)) (fun k f => w (ix2 f k)) f := by
  have e : feat h w (ix2 f r) = ∑ k, w (ix2 f k) * h (ix2 r k) := by
    unfold feat
    pointwise
  rw [e]
  exact Finset.sum_congr rfl fun k _ => mul_comm _ _

/-- The queries at an index, -/
theorem qs_at (f : FVec Ideal S2576x512 .f32) (j r : Fin 512) : qs f (ix3 0 j r) = f (ix2 ⟨0 + j.val, by omega⟩ r) := by
  unfold qs
  pointwise
/-- the values, -/
theorem vs_at (f : FVec Ideal S2576x512 .f32) (j : Fin 1024) (r : Fin 512) : vs f (ix3 0 j r) = f (ix2 ⟨512 + j.val, by omega⟩ r) := by
  unfold vs
  pointwise
/-- the output gates, -/
theorem os_at (f : FVec Ideal S2576x512 .f32) (j : Fin 1024) (r : Fin 512) : os f (ix3 0 j r) = f (ix2 ⟨1536 + j.val, by omega⟩ r) := by
  unfold os
  pointwise
/-- and the gates. -/
theorem gs_at (f : FVec Ideal S2576x512 .f32) (j : Fin 16) (r : Fin 512) : gs f (ix3 0 j r) = f (ix2 ⟨2560 + j.val, by omega⟩ r) := by
  unfold gs
  pointwise

end Cert.Kernel3Ideal.In

end
-- ==== Proof.InHost.lean ====
module

public import proofs.«01_k».proof.Proof.Gen.Kernel3Ideal.Frame
public import Idealize.ShloMosaic.Lib.Pointwise
public import Idealize.ShloMosaic.Lib.StableHlo.ReadAt

@[expose] public section

set_option maxRecDepth 16384

noncomputable section

namespace Cert.Kernel3Ideal.In

open Idealize.ShloMosaic Idealize.ShloMosaic.TcCoe
open Cert.Kernel3Ideal.Gen

variable (m : (ℓ : Loc nD τ sig) → Buf (Elt Ideal) ℓ) (c : Dev nD)

/-- The argument arrays: the residual stream, -/
def arg0 : FVec Ideal S4x8192x1024 .f32 := m ((c : Thread nD τ).loc main_arg0)
/-- the gain of the norm, -/
def arg1 : FVec Ideal S1024 .f32 := m ((c : Thread nD τ).loc main_arg1)
/-- the shift -/
def arg2 : FVec Ideal S4x1024 .f32 := m ((c : Thread nD τ).loc main_arg2)
/-- and the scale of the modulation, -/
def arg3 : FVec Ideal S4x1024 .f32 := m ((c : Thread nD τ).loc main_arg3)
/-- and the projections, side by side. -/
def arg4 : FVec Ideal S1024x3088 .f32 := m ((c : Thread nD τ).loc main_arg4)

/-- The residual stream as rows. -/
theorem x_at (R : Fin 32768) (k : Fin 1024) :
    (V m c main_v13 : FVec Ideal S32768x1024 .f32) (ix2 R k) = arg0 m c (ix3 ⟨R.val / 8192, by omega⟩ ⟨R.val % 8192, by omega⟩ k) := by
  unfold V
  after_reads_at
  rfl

/-- The gain as a row. -/
theorem g_at (k : Fin 1024) : (V m c main_v14 : FVec Ideal S1x1024 .f32) (ix2 0 k) = arg1 m c (ix1 k) := by
  unfold V
  after_reads_at
  rfl

/-- The first of the eight modulation rows: the shift. -/
theorem sh_at (b : Fin 4) (k : Fin 1024) : (V m c main_v3 : FVec Ideal S4x8x1024 .f32) (ix3 b 0 k) = arg2 m c (ix2 b k) := by
  unfold V
  after_reads_at
  after_reads_at
  rfl

/-- The second: the scale. -/
theorem sc_at (b : Fin 4) (k : Fin 1024) : (V m c main_v3 : FVec Ideal S4x8x1024 .f32) (ix3 b 1 k) = arg3 m c (ix2 b k) := by
  unfold V
  after_reads_at
  after_reads_at
  rfl

/-- The keys' projection. -/
theorem wk_at (k : Fin 1024) (j : Fin 512) : (V m c main_v5 : FVec Ideal S1024x512 .bf16) (ix2 k j) = arg4 m c (ix2 k ⟨512 + j.val, by omega⟩) := by
  unfold V
  after_reads_at
  rfl

/-- The column of the projections that a row of the transposed ones holds: queries, values, output gates, gates. -/
def colOf (f : ℕ) : ℕ := if f < 512 then f else if f < 1536 then 512 + f else if f < 2560 then 528 + f else f - 512

theorem colOf_lt (f : Fin 2576) : colOf f.val < 3088 := by
  unfold colOf
  split_ifs <;> omega

/-- The other projections, transposed. -/
theorem wt_at (f : Fin 2576) (k : Fin 1024) :
    (V m c main_v12 : FVec Ideal S2576x1024 .bf16) (ix2 f k) = arg4 m c (ix2 k ⟨colOf f.val, colOf_lt f⟩) := by
  unfold V
  after_reads_at
  split
  · after_reads_at
    refine congrArg (arg4 m c) (congrArg (ix2 k) (Fin.ext ?_))
    simp only [colOf]
    split_ifs <;> omega
  · split
    · after_reads_at
      refine congrArg (arg4 m c) (congrArg (ix2 k) (Fin.ext ?_))
      simp only [colOf]
      split_ifs <;> omega
    · split
      · after_reads_at
        refine congrArg (arg4 m c) (congrArg (ix2 k) (Fin.ext ?_))
        simp only [colOf]
        split_ifs <;> omega
      · after_reads_at
        refine congrArg (arg4 m c) (congrArg (ix2 k) (Fin.ext ?_))
        simp only [colOf]
        split_ifs <;> omega

end Cert.Kernel3Ideal.In

end
-- ==== Proof.InTile.lean ====
module

public import proofs.«01_k».proof.Proof.Gen.Kernel3Ideal.Value
public import proofs.«01_k».proof.Proof.InVec
public import proofs.«01_k».proof.Proof.InHost
public import Idealize.ShloMosaic.Lib.Pipeline.ValueKit

@[expose] public section

set_option maxRecDepth 16384

noncomputable section

namespace Cert.Kernel3Ideal.In

open Idealize.ShloMosaic Idealize.ShloMosaic.TcCoe
open Idealize.ShloMosaic.Pipeline (Dat)
open Cert.Kernel3Ideal.Gen
open Cert.PostSpec Cert.InSpec

/-- A point's number is below 32. -/
theorem lt_N (t : Fin cfg0.N) : t.val < 32 := lt_of_lt_of_eq t.isLt N_0

/-- Where a point's blocks lie: the residual stream's, -/
theorem idx0 : ∀ t : Fin grid0.N, win0_0.index t = ![t.val, 0] := by decide +kernel
/-- the gain's, -/
theorem idx1 : ∀ t : Fin grid0.N, win0_1.index t = ![0, 0] := by decide +kernel
/-- the modulation rows', -/
theorem idx2 : ∀ t : Fin grid0.N, win0_2.index t = ![t.val / 8, 0, 0] := by decide +kernel
/-- the projections', -/
theorem idx3 : ∀ t : Fin grid0.N, win0_3.index t = ![0, 0] := by decide +kernel
/-- those of the transposed ones, -/
theorem idx4 : ∀ t : Fin grid0.N, win0_4.index t = ![0, 0] := by decide +kernel
/-- and the results': the keys', -/
theorem idx5 : ∀ t : Fin grid0.N, win0_5.index t = ![t.val, 0] := by decide +kernel
/-- the queries', -/
theorem idx6 : ∀ t : Fin grid0.N, win0_6.index t = ![t.val / 8, 0, t.val % 8] := by decide +kernel
/-- the values', -/
theorem idx7 : ∀ t : Fin grid0.N, win0_7.index t = ![t.val / 8, 0, t.val % 8] := by decide +kernel
/-- the output gates', -/
theorem idx8 : ∀ t : Fin grid0.N, win0_8.index t = ![t.val / 8, 0, t.val % 8] := by decide +kernel
/-- and the gates'. -/
theorem idx9 : ∀ t : Fin grid0.N, win0_9.index t = ![t.val / 8, 0, t.val % 8] := by decide +kernel

section Reads

variable {F : FTy → Type} [FloatOps F]

/-- A block read at an index is its array at the block's place: the residual stream, --/
theorem read0 (X : (b : Ref sig .tc) → b.ty.Contents (Elt F)) (t : Fin cfg0.N) (y) (i) (hi : ((cfg0.win 0).blk t).view.emb y = i) :
    ((cfg0.win 0).blk t).view.read (Elt F) (X (Pipeline.arrRef spec0 0)) y = X main_v13 i := by subst hi; rfl
/-- the gain, --/
theorem read1 (X : (b : Ref sig .tc) → b.ty.Contents (Elt F)) (t : Fin cfg0.N) (y) (i) (hi : ((cfg0.win 1).blk t).view.emb y = i) :
    ((cfg0.win 1).blk t).view.read (Elt F) (X (Pipeline.arrRef spec0 1)) y = X main_v14 i := by subst hi; rfl
/-- the modulation rows, --/
theorem read2 (X : (b : Ref sig .tc) → b.ty.Contents (Elt F)) (t : Fin cfg0.N) (y) (i) (hi : ((cfg0.win 2).blk t).view.emb y = i) :
    ((cfg0.win 2).blk t).view.read (Elt F) (X (Pipeline.arrRef spec0 2)) y = X main_v3 i := by subst hi; rfl
/-- the keys' projection, --/
theorem read3 (X : (b : Ref sig .tc) → b.ty.Contents (Elt F)) (t : Fin cfg0.N) (y) (i) (hi : ((cfg0.win 3).blk t).view.emb y = i) :
    ((cfg0.win 3).blk t).view.read (Elt F) (X (Pipeline.arrRef spec0 3)) y = X main_v5 i := by subst hi; rfl
/-- and the others. -/
theorem read4 (X : (b : Ref sig .tc) → b.ty.Contents (Elt F)) (t : Fin cfg0.N) (y) (i) (hi : ((cfg0.win 4).blk t).view.emb y = i) :
    ((cfg0.win 4).blk t).view.read (Elt F) (X (Pipeline.arrRef spec0 4)) y = X main_v12 i := by subst hi; rfl

end Reads

variable (m : (ℓ : Loc nD τ sig) → Buf (Elt Ideal) ℓ) (c : Dev nD)

/-- A point's rows of the residual stream, -/
theorem blk0 (t : Fin cfg0.N) (r k : Fin 1024) (R : Fin 32768) (h : R.val = t.val * 1024 + r.val) :
    (iblk m c 0 t : FVec Ideal S1024x1024 .f32) (ix2 r k) = (V m c main_v13 : FVec Ideal S32768x1024 .f32) (ix2 R k) := by
  have := lt_N t
  exact read0 (V m c) t (ix2 r k) (ix2 R k) (by blk_ext [idx0])
/-- the gain, -/
theorem blk1 (t : Fin cfg0.N) (k : Fin 1024) :
    (iblk m c 1 t : FVec Ideal S1x1024 .f32) (ix2 0 k) = (V m c main_v14 : FVec Ideal S1x1024 .f32) (ix2 0 k) := by
  have := lt_N t
  exact read1 (V m c) t (ix2 0 k) (ix2 0 k) (by blk_ext [idx1])
/-- its modulation rows, -/
theorem blk2 (t : Fin cfg0.N) (j : Fin 8) (k : Fin 1024) (b : Fin 4) (hb : b.val = t.val / 8) :
    (iblk m c 2 t : FVec Ideal S1x8x1024 .f32) (ix3 0 j k) = (V m c main_v3 : FVec Ideal S4x8x1024 .f32) (ix3 b j k) := by
  have := lt_N t
  exact read2 (V m c) t (ix3 0 j k) (ix3 b j k) (by blk_ext [idx2])
/-- the keys' projection, -/
theorem blk3 (t : Fin cfg0.N) (k : Fin 1024) (j : Fin 512) :
    (iblk m c 3 t : FVec Ideal S1024x512 .bf16) (ix2 k j) = (V m c main_v5 : FVec Ideal S1024x512 .bf16) (ix2 k j) := by
  have := lt_N t
  exact read3 (V m c) t (ix2 k j) (ix2 k j) (by blk_ext [idx3])
/-- and the others. -/
theorem blk4 (t : Fin cfg0.N) (f : Fin 2576) (k : Fin 1024) :
    (iblk m c 4 t : FVec Ideal S2576x1024 .bf16) (ix2 f k) = (V m c main_v12 : FVec Ideal S2576x1024 .bf16) (ix2 f k) := by
  have := lt_N t
  exact read4 (V m c) t (ix2 f k) (ix2 f k) (by blk_ext [idx4])

section Block

variable (x0 : Vec Ideal S1024x1024 .f32) (x1 : Vec Ideal S1x1024 .f32) (x2 : Vec Ideal S1x8x1024 .f32) (x3 : Vec Ideal S1024x512 .bf16)
  (x4 : Vec Ideal S2576x1024 .bf16)

/-- A modulated row of a point's block. -/
def blkH (r : Fin 1024) : Fin 1024 → EReal :=
  rowMod (fun k => x0 (ix2 r k)) (fun k => x1 (ix2 0 k)) (fun k => x2 (ix3 0 1 k)) (fun k => x2 (ix3 0 0 k))

/-- The modulated rows that a load of 512 rows gives. -/
theorem hid_row {o : ℕ} (i0) (r : Fin 512) (r' : Fin 1024) (h : r'.val = o + r.val) (k : Fin 1024) :
    hid (View.ld x0 (Rect.unit (s := S1024x1024) ![o, 0] S512x1024.size i0)) (View.ld x1 r0_1) (View.ld x2 r0_2) (View.ld x2 r0_3) (ix2 r k)
      = blkH x0 x1 x2 r' k := by
  refine (hid_at _ _ _ _ r k).trans ?_
  unfold blkH
  have e0 : ∀ k : Fin 1024, View.ld x0 (Rect.unit (s := S1024x1024) ![o, 0] S512x1024.size i0) (ix2 r k) = x0 (ix2 r' k) :=
    fun k => ld2 _ _ _ _ _ _ h (by simp)
  have e1 : ∀ k : Fin 1024, View.ld x1 r0_1 (ix2 0 k) = x1 (ix2 0 k) := fun k => ld2 _ _ _ _ _ _ (by simp) (by simp)
  have e2 : ∀ k : Fin 1024, View.ld x2 r0_2 (ix3 0 0 k) = x2 (ix3 0 1 k) := fun k => ld3 _ _ _ _ _ _ _ _ (by simp) (by simp) (by simp)
  have e3 : ∀ k : Fin 1024, View.ld x2 r0_3 (ix3 0 0 k) = x2 (ix3 0 0 k) := fun k => ld3 _ _ _ _ _ _ _ _ (by simp) (by simp) (by simp)
  simp only [e0, e2, e3]
  exact congrArg (fun g => rowMod _ g _ _ k) (funext e1)

/-- A row of a point's block of the keys. -/
def blkK (r : Fin 1024) (j : Fin 512) : EReal := rowMul (blkH x0 x1 x2 r) (fun k j => x3 (ix2 k j)) j * Ideal.ofBits .f32 0x3E000000#32

/-- A row of the point's other features. -/
def blkF (f : Fin 2576) (r : Fin 1024) : EReal := rowMul (blkH x0 x1 x2 r) (fun k f => x4 (ix2 f k)) f

/-- The keys of a load of 512 rows. -/
theorem key_row {o : ℕ} (i0) (r : Fin 512) (r' : Fin 1024) (h : r'.val = o + r.val) (j : Fin 512) :
    keys (hid (View.ld x0 (Rect.unit (s := S1024x1024) ![o, 0] S512x1024.size i0)) (View.ld x1 r0_1) (View.ld x2 r0_2) (View.ld x2 r0_3)) (View.ld x3 r0_4) (ix2 r j)
      = blkK x0 x1 x2 x3 r' j := by
  refine (keys_at _ _ r j).trans ?_
  have e : ∀ k : Fin 1024, _ := fun k => hid_row x0 x1 x2 i0 r r' h k
  have e3 : ∀ (k : Fin 1024) (j : Fin 512), View.ld x3 r0_4 (ix2 k j) = x3 (ix2 k j) := fun k j => ld2 _ _ _ _ _ _ (by simp) (by simp)
  simp only [e, e3]
  rfl

/-- A piece of the keys is rows of the block, from the piece's first row on. -/
theorem key_piece {o : ℕ} (i0 i1) (x : S512x512.Idx) :
    keys (hid (View.ld x0 (Rect.unit (s := S1024x1024) ![o, 0] S512x1024.size i0)) (View.ld x1 r0_1) (View.ld x2 r0_2) (View.ld x2 r0_3)) (View.ld x3 r0_4) x
      = (fun y : S1024x512.Idx => blkK x0 x1 x2 x3 (y 0) (y 1)) ((Rect.unit (s := S1024x512) ![o, 0] S512x512.size i1).idx x) := by
  have hx : x = ix2 ⟨(x 0).val, (x 0).isLt⟩ ⟨(x 1).val, (x 1).isLt⟩ := by
    funext a; fin_cases a <;> rfl
  refine (congrArg _ hx).trans ?_
  refine (key_row x0 x1 x2 x3 i0 _ ((Rect.unit (s := S1024x512) ![o, 0] S512x512.size i1).idx x 0) (Rect.idx_unit_val _ _ _ _ _) _).trans ?_
  refine congrArg (blkK x0 x1 x2 x3 _) (Fin.ext ?_)
  refine Eq.symm ((Rect.idx_unit_val _ _ _ _ _).trans ?_)
  show 0 + (x 1).val = (x 1).val
  omega

/-- A point's block of the keys, row by row. -/
theorem out5_at (y : S1024x512.Idx) : out0_5 x0 x1 x2 x3 x4 y = blkK x0 x1 x2 x3 (y 0) (y 1) := by
  rw [out5_eq]
  refine View.canon_apply_of_pieces (Val := Elt Ideal) (fun y => blkK x0 x1 x2 x3 (y 0) (y 1)) _ ?_ y (cover0_5 _ _ y)
  intro pc hpc x
  rcases List.mem_cons.mp hpc with rfl | hpc
  · exact key_piece x0 x1 x2 x3 _ inb_S1024x512_S512x512_512_0 x
  rcases List.mem_cons.mp hpc with rfl | hpc
  · exact key_piece x0 x1 x2 x3 _ inb_S1024x512_S512x512_0_0 x
  nomatch hpc

/-- The other features of a load of 512 rows. -/
theorem feat_row {o : ℕ} (i0) (f : Fin 2576) (r : Fin 512) (r' : Fin 1024) (h : r'.val = o + r.val) :
    feat (hid (View.ld x0 (Rect.unit (s := S1024x1024) ![o, 0] S512x1024.size i0)) (View.ld x1 r0_1) (View.ld x2 r0_2) (View.ld x2 r0_3)) (View.ld x4 r0_6) (ix2 f r)
      = blkF x0 x1 x2 x4 f r' := by
  refine (feat_at _ _ f r).trans ?_
  have e : ∀ k : Fin 1024, _ := fun k => hid_row x0 x1 x2 i0 r r' h k
  have e4 : ∀ (k : Fin 1024) (f : Fin 2576), View.ld x4 r0_6 (ix2 f k) = x4 (ix2 f k) := fun k j => ld2 _ _ _ _ _ _ (by simp) (by simp)
  simp only [e, e4]
  rfl

/-- A piece of the queries is rows of the block. -/
theorem q_piece {o : ℕ} (i0 i1) (x : S1x512x512.Idx) :
    qs (feat (hid (View.ld x0 (Rect.unit (s := S1024x1024) ![o, 0] S512x1024.size i0)) (View.ld x1 r0_1) (View.ld x2 r0_2) (View.ld x2 r0_3)) (View.ld x4 r0_6)) x
      = (fun y : S1x512x1024.Idx => blkF x0 x1 x2 x4 ⟨0 + (y 1).val, by have : (y 1).val < 512 := (y 1).isLt; omega⟩ (y 2))
        ((Rect.unit (s := S1x512x1024) ![0, 0, o] S1x512x512.size i1).idx x) := by
  have hx : x = ix3 0 ⟨(x 1).val, (x 1).isLt⟩ ⟨(x 2).val, (x 2).isLt⟩ := by
    funext a; fin_cases a
    · exact Fin.ext (by have : (x 0).val < 1 := (x 0).isLt; show (x 0).val = 0; omega)
    · rfl
    · rfl
  refine (congrArg _ hx).trans ((qs_at _ _ _).trans ?_)
  refine (feat_row x0 x1 x2 x4 i0 _ _ ((Rect.unit (s := S1x512x1024) ![0, 0, o] S1x512x512.size i1).idx x 2) (Rect.idx_unit_val _ _ _ _ _)).trans ?_
  refine congrArg (fun f => blkF x0 x1 x2 x4 f _) (Fin.ext ?_)
  have e := Rect.idx_unit_val (s := S1x512x1024) ![0, 0, o] S1x512x512.size i1 x 1
  show 0 + (x 1).val = 0 + ((Rect.unit (s := S1x512x1024) ![0, 0, o] S1x512x512.size i1).idx x 1).val
  rw [e]
  show _ = 0 + (0 + (x 1).val)
  omega

/-- A point's block of the queries, row by row. -/
theorem out6_at (y : S1x512x1024.Idx) :
    out0_6 x0 x1 x2 x3 x4 y = blkF x0 x1 x2 x4 ⟨0 + (y 1).val, by have : (y 1).val < 512 := (y 1).isLt; omega⟩ (y 2) := by
  rw [out6_eq]
  refine View.canon_apply_of_pieces (Val := Elt Ideal)
    (fun y : S1x512x1024.Idx => blkF x0 x1 x2 x4 ⟨0 + (y 1).val, by have : (y 1).val < 512 := (y 1).isLt; omega⟩ (y 2)) _ ?_ y (cover0_6 _ _ y)
  intro pc hpc x
  rcases List.mem_cons.mp hpc with rfl | hpc
  · exact q_piece x0 x1 x2 x4 _ inb_S1x512x1024_S1x512x512_0_0_512 x
  rcases List.mem_cons.mp hpc with rfl | hpc
  · exact q_piece x0 x1 x2 x4 _ inb_S1x512x1024_S1x512x512_0_0_0 x
  nomatch hpc

/-- A piece of the values is rows of the block. -/
theorem v_piece {o : ℕ} (i0 i1) (x : S1x1024x512.Idx) :
    vs (feat (hid (View.ld x0 (Rect.unit (s := S1024x1024) ![o, 0] S512x1024.size i0)) (View.ld x1 r0_1) (View.ld x2 r0_2) (View.ld x2 r0_3)) (View.ld x4 r0_6)) x
      = (fun y : S1x1024x1024.Idx => blkF x0 x1 x2 x4 ⟨512 + (y 1).val, by have : (y 1).val < 1024 := (y 1).isLt; omega⟩ (y 2))
        ((Rect.unit (s := S1x1024x1024) ![0, 0, o] S1x1024x512.size i1).idx x) := by
  have hx : x = ix3 0 ⟨(x 1).val, (x 1).isLt⟩ ⟨(x 2).val, (x 2).isLt⟩ := by
    funext a; fin_cases a
    · exact Fin.ext (by have : (x 0).val < 1 := (x 0).isLt; show (x 0).val = 0; omega)
    · rfl
    · rfl
  refine (congrArg _ hx).trans ((vs_at _ _ _).trans ?_)
  refine (feat_row x0 x1 x2 x4 i0 _ _ ((Rect.unit (s := S1x1024x1024) ![0, 0, o] S1x1024x512.size i1).idx x 2) (Rect.idx_unit_val _ _ _ _ _)).trans ?_
  refine congrArg (fun f => blkF x0 x1 x2 x4 f _) (Fin.ext ?_)
  have e := Rect.idx_unit_val (s := S1x1024x1024) ![0, 0, o] S1x1024x512.size i1 x 1
  show 512 + (x 1).val = 512 + ((Rect.unit (s := S1x1024x1024) ![0, 0, o] S1x1024x512.size i1).idx x 1).val
  rw [e]
  show _ = 512 + (0 + (x 1).val)
  omega

/-- A point's block of the values, row by row. -/
theorem out7_at (y : S1x1024x1024.Idx) :
    out0_7 x0 x1 x2 x3 x4 y = blkF x0 x1 x2 x4 ⟨512 + (y 1).val, by have : (y 1).val < 1024 := (y 1).isLt; omega⟩ (y 2) := by
  rw [out7_eq]
  refine View.canon_apply_of_pieces (Val := Elt Ideal)
    (fun y : S1x1024x1024.Idx => blkF x0 x1 x2 x4 ⟨512 + (y 1).val, by have : (y 1).val < 1024 := (y 1).isLt; omega⟩ (y 2)) _ ?_ y (cover0_7 _ _ y)
  intro pc hpc x
  rcases List.mem_cons.mp hpc with rfl | hpc
  · exact v_piece x0 x1 x2 x4 _ inb_S1x1024x1024_S1x1024x512_0_0_512 x
  rcases List.mem_cons.mp hpc with rfl | hpc
  · exact v_piece x0 x1 x2 x4 _ inb_S1x1024x1024_S1x1024x512_0_0_0 x
  nomatch hpc

/-- A piece of the output gates is rows of the block. -/
theorem o_piece {o : ℕ} (i0 i1) (x : S1x1024x512.Idx) :
    os (feat (hid (View.ld x0 (Rect.unit (s := S1024x1024) ![o, 0] S512x1024.size i0)) (View.ld x1 r0_1) (View.ld x2 r0_2) (View.ld x2 r0_3)) (View.ld x4 r0_6)) x
      = (fun y : S1x1024x1024.Idx => blkF x0 x1 x2 x4 ⟨1536 + (y 1).val, by have : (y 1).val < 1024 := (y 1).isLt; omega⟩ (y 2))
        ((Rect.unit (s := S1x1024x1024) ![0, 0, o] S1x1024x512.size i1).idx x) := by
  have hx : x = ix3 0 ⟨(x 1).val, (x 1).isLt⟩ ⟨(x 2).val, (x 2).isLt⟩ := by
    funext a; fin_cases a
    · exact Fin.ext (by have : (x 0).val < 1 := (x 0).isLt; show (x 0).val = 0; omega)
    · rfl
    · rfl
  refine (congrArg _ hx).trans ((os_at _ _ _).trans ?_)
  refine (feat_row x0 x1 x2 x4 i0 _ _ ((Rect.unit (s := S1x1024x1024) ![0, 0, o] S1x1024x512.size i1).idx x 2) (Rect.idx_unit_val _ _ _ _ _)).trans ?_
  refine congrArg (fun f => blkF x0 x1 x2 x4 f _) (Fin.ext ?_)
  have e := Rect.idx_unit_val (s := S1x1024x1024) ![0, 0, o] S1x1024x512.size i1 x 1
  show 1536 + (x 1).val = 1536 + ((Rect.unit (s := S1x1024x1024) ![0, 0, o] S1x1024x512.size i1).idx x 1).val
  rw [e]
  show _ = 1536 + (0 + (x 1).val)
  omega

/-- A point's block of the output gates, row by row. -/
theorem out8_at (y : S1x1024x1024.Idx) :
    out0_8 x0 x1 x2 x3 x4 y = blkF x0 x1 x2 x4 ⟨1536 + (y 1).val, by have : (y 1).val < 1024 := (y 1).isLt; omega⟩ (y 2) := by
  rw [out8_eq]
  refine View.canon_apply_of_pieces (Val := Elt Ideal)
    (fun y : S1x1024x1024.Idx => blkF x0 x1 x2 x4 ⟨1536 + (y 1).val, by have : (y 1).val < 1024 := (y 1).isLt; omega⟩ (y 2)) _ ?_ y (cover0_8 _ _ y)
  intro pc hpc x
  rcases List.mem_cons.mp hpc with rfl | hpc
  · exact o_piece x0 x1 x2 x4 _ inb_S1x1024x1024_S1x1024x512_0_0_512 x
  rcases List.mem_cons.mp hpc with rfl | hpc
  · exact o_piece x0 x1 x2 x4 _ inb_S1x1024x1024_S1x1024x512_0_0_0 x
  nomatch hpc

/-- A piece of the gates is rows of the block. -/
theorem g_piece {o : ℕ} (i0 i1) (x : S1x16x512.Idx) :
    gs (feat (hid (View.ld x0 (Rect.unit (s := S1024x1024) ![o, 0] S512x1024.size i0)) (View.ld x1 r0_1) (View.ld x2 r0_2) (View.ld x2 r0_3)) (View.ld x4 r0_6)) x
      = (fun y : S1x16x1024.Idx => blkF x0 x1 x2 x4 ⟨2560 + (y 1).val, by have : (y 1).val < 16 := (y 1).isLt; omega⟩ (y 2))
        ((Rect.unit (s := S1x16x1024) ![0, 0, o] S1x16x512.size i1).idx x) := by
  have hx : x = ix3 0 ⟨(x 1).val, (x 1).isLt⟩ ⟨(x 2).val, (x 2).isLt⟩ := by
    funext a; fin_cases a
    · exact Fin.ext (by have : (x 0).val < 1 := (x 0).isLt; show (x 0).val = 0; omega)
    · rfl
    · rfl
  refine (congrArg _ hx).trans ((gs_at _ _ _).trans ?_)
  refine (feat_row x0 x1 x2 x4 i0 _ _ ((Rect.unit (s := S1x16x1024) ![0, 0, o] S1x16x512.size i1).idx x 2) (Rect.idx_unit_val _ _ _ _ _)).trans ?_
  refine congrArg (fun f => blkF x0 x1 x2 x4 f _) (Fin.ext ?_)
  have e := Rect.idx_unit_val (s := S1x16x1024) ![0, 0, o] S1x16x512.size i1 x 1
  show 2560 + (x 1).val = 2560 + ((Rect.unit (s := S1x16x1024) ![0, 0, o] S1x16x512.size i1).idx x 1).val
  rw [e]
  show _ = 2560 + (0 + (x 1).val)
  omega

/-- A point's block of the gates, row by row. -/
theorem out9_at (y : S1x16x1024.Idx) :
    out0_9 x0 x1 x2 x3 x4 y = blkF x0 x1 x2 x4 ⟨2560 + (y 1).val, by have : (y 1).val < 16 := (y 1).isLt; omega⟩ (y 2) := by
  rw [out9_eq]
  refine View.canon_apply_of_pieces (Val := Elt Ideal)
    (fun y : S1x16x1024.Idx => blkF x0 x1 x2 x4 ⟨2560 + (y 1).val, by have : (y 1).val < 16 := (y 1).isLt; omega⟩ (y 2)) _ ?_ y (cover0_9 _ _ y)
  intro pc hpc x
  rcases List.mem_cons.mp hpc with rfl | hpc
  · exact g_piece x0 x1 x2 x4 _ inb_S1x16x1024_S1x16x512_0_0_512 x
  rcases List.mem_cons.mp hpc with rfl | hpc
  · exact g_piece x0 x1 x2 x4 _ inb_S1x16x1024_S1x16x512_0_0_0 x
  nomatch hpc

end Block

/-- A modulated row of a point's block, from the arguments. -/
theorem h_eq (t : Fin cfg0.N) (r : Fin 1024) (b : Fin 4) (s : Fin 8192) (hb : b.val = t.val / 8) (hs : s.val = t.val % 8 * 1024 + r.val) :
    blkH (iblk m c 0 t) (iblk m c 1 t) (iblk m c 2 t) r
      = rowMod (fun k => arg0 m c (ix3 b s k)) (fun k => arg1 m c (ix1 k)) (fun k => arg3 m c (ix2 b k)) (fun k => arg2 m c (ix2 b k)) := by
  have ht := lt_N t
  have e0 : ∀ k : Fin 1024, (iblk m c 0 t : FVec Ideal S1024x1024 .f32) (ix2 r k) = arg0 m c (ix3 b s k) := fun k => by
    refine ((blk0 m c t r k ⟨t.val * 1024 + r.val, by omega⟩ rfl).trans (x_at m c _ k)).trans ?_
    refine congrArg (arg0 m c) ?_
    congr 1
    · exact Fin.ext (by show (t.val * 1024 + r.val) / 8192 = b.val; omega)
    · exact Fin.ext (by show (t.val * 1024 + r.val) % 8192 = s.val; omega)
  have e1 : ∀ k : Fin 1024, (iblk m c 1 t : FVec Ideal S1x1024 .f32) (ix2 0 k) = arg1 m c (ix1 k) := fun k => (blk1 m c t k).trans (g_at m c k)
  have e2 : ∀ k : Fin 1024, (iblk m c 2 t : FVec Ideal S1x8x1024 .f32) (ix3 0 0 k) = arg2 m c (ix2 b k) :=
    fun k => (blk2 m c t 0 k b hb).trans (sh_at m c b k)
  have e3 : ∀ k : Fin 1024, (iblk m c 2 t : FVec Ideal S1x8x1024 .f32) (ix3 0 1 k) = arg3 m c (ix2 b k) :=
    fun k => (blk2 m c t 1 k b hb).trans (sc_at m c b k)
  unfold blkH
  rw [funext e0, funext e1, funext e2, funext e3]

/-- A row of the features of a point's block, from the arguments. -/
theorem f_eq (t : Fin cfg0.N) (f : Fin 2576) (r : Fin 1024) (b : Fin 4) (s : Fin 8192) (hb : b.val = t.val / 8) (hs : s.val = t.val % 8 * 1024 + r.val) :
    blkF (iblk m c 0 t) (iblk m c 1 t) (iblk m c 2 t) (iblk m c 4 t) f r
      = projAt (arg0 m c) (arg1 m c) (arg2 m c) (arg3 m c) (arg4 m c) b s ⟨colOf f.val, colOf_lt f⟩ := by
  have e4 : ∀ k : Fin 1024, (iblk m c 4 t : FVec Ideal S2576x1024 .bf16) (ix2 f k) = arg4 m c (ix2 k ⟨colOf f.val, colOf_lt f⟩) :=
    fun k => (blk4 m c t f k).trans (wt_at m c f k)
  unfold blkF projAt rowMul
  rw [h_eq m c t r b s hb hs]
  exact Finset.sum_congr rfl fun k _ => congrArg _ (e4 k)

/-- The keys' array. -/
def keyArr : FVec Ideal S32768x512 .bf16 := fun i =>
  keyAt (arg0 m c) (arg1 m c) (arg2 m c) (arg3 m c) (arg4 m c) ⟨(i 0).val, (i 0).isLt⟩ ⟨(i 1).val, (i 1).isLt⟩

/-- A point's block of the keys. -/
def oblk5 (t : Fin cfg0.N) : FVec Ideal S1024x512 .bf16 := out0_5 (iblk m c 0 t) (iblk m c 1 t) (iblk m c 2 t) (iblk m c 3 t) (iblk m c 4 t)

/-- It is what the body leaves. -/
theorem after5 (t : Fin cfg0.N) : (dats m 0 c).after 5 t = oblk5 m c t := after0_5 m c t

/-- It at an index. -/
theorem oblk5_at (t : Fin cfg0.N) (r : Fin 1024) (j : Fin 512) (R : Fin 32768) (h : R.val = t.val * 1024 + r.val) :
    oblk5 m c t (ix2 r j) = keyArr m c (ix2 R j) := by
  have ht := lt_N t
  refine (out5_at _ _ _ _ _ _).trans ?_
  show blkK _ _ _ _ r j = keyAt _ _ _ _ _ R j
  have e3 : ∀ k : Fin 1024, (iblk m c 3 t : FVec Ideal S1024x512 .bf16) (ix2 k j) = arg4 m c (ix2 k ⟨512 + j.val, by omega⟩) :=
    fun k => (blk3 m c t k j).trans (wk_at m c k j)
  unfold blkK keyAt projAt rowMul
  rw [h_eq m c t r ⟨R.val / 8192, by omega⟩ ⟨R.val % 8192, by omega⟩ (by show R.val / 8192 = _; omega) (by show R.val % 8192 = _; omega)]
  exact congrArg (· * _) (Finset.sum_congr rfl fun k _ => congrArg _ (e3 k))

/-- The keys' blocks cover their array. -/
theorem covers5 : win0_5.Covers := by decide +kernel

/-- The keys' array is any array each point's block agrees with. -/
theorem result5_of (G : FVec Ideal S32768x512 .bf16)
    (h : ∀ (t : Fin cfg0.N) (r : Fin 1024) (k : Fin 512), oblk5 m c t (ix2 r k) = G (ix2 ⟨t.val * 1024 + r.val, by have := lt_N t; omega⟩ k)) :
    (dats m 0 c).arrAt 5 cfg0.N = G := by
  refine (dats m 0 c).arrAt_eq_of_covers 5 G covers5 fun t hf y => ?_
  have ht := lt_N t
  have hi : ((cfg0.win 5).blk t).view.emb y = (ix2 ⟨t.val * 1024 + (y 0).val, by have : (y 0).val < 1024 := (y 0).isLt; omega⟩ ⟨(y 1).val, (y 1).isLt⟩ : S32768x512.Idx) := by
    blk_ext [idx5]
  have hx : (cfg0.win 5).xinj (cfg0.grid.coords t) y = (ix2 ⟨(y 0).val, (y 0).isLt⟩ ⟨(y 1).val, (y 1).isLt⟩ : S1024x512.Idx) := by
    blk_ext [idx5]
  rw [hi, hx, after5]
  exact (cast_eq _ _).trans (h t ⟨(y 0).val, (y 0).isLt⟩ ⟨(y 1).val, (y 1).isLt⟩)

/-- The keys' array after the run. -/
theorem result5 : (dats m 0 c).arrAt 5 cfg0.N = keyArr m c :=
  result5_of m c (keyArr m c) fun t r k => oblk5_at m c t r k ⟨t.val * 1024 + r.val, by have := lt_N t; omega⟩ rfl

/-- The array of the queries. -/
def qArr : FVec Ideal S4x512x8192 .bf16 := fun i =>
  colAt (arg0 m c) (arg1 m c) (arg2 m c) (arg3 m c) (arg4 m c) 512 0 (by norm_num) ⟨(i 0).val, (i 0).isLt⟩ ⟨(i 1).val, (i 1).isLt⟩ ⟨(i 2).val, (i 2).isLt⟩

/-- A point's block of it. -/
def oblk6 (t : Fin cfg0.N) : FVec Ideal S1x512x1024 .bf16 := out0_6 (iblk m c 0 t) (iblk m c 1 t) (iblk m c 2 t) (iblk m c 3 t) (iblk m c 4 t)

/-- It is what the body leaves. -/
theorem after6 (t : Fin cfg0.N) : (dats m 0 c).after 6 t = oblk6 m c t := after0_6 m c t

/-- It at an index. -/
theorem oblk6_at (t : Fin cfg0.N) (j : Fin 512) (r : Fin 1024) (b : Fin 4) (s : Fin 8192) (hb : b.val = t.val / 8) (hs : s.val = t.val % 8 * 1024 + r.val) :
    oblk6 m c t (ix3 0 j r) = qArr m c (ix3 b j s) := by
  refine (out6_at _ _ _ _ _ _).trans ?_
  show blkF _ _ _ _ ⟨0 + j.val, _⟩ r = projAt _ _ _ _ _ b s ⟨0 + j.val, _⟩
  rw [f_eq m c t ⟨0 + j.val, by omega⟩ r b s hb hs]
  refine congrArg _ (Fin.ext ?_)
  simp only [colOf]
  split_ifs <;> omega

/-- Its blocks cover it. -/
theorem covers6 : win0_6.Covers := by decide +kernel

/-- It is any array each point's block agrees with. -/
theorem result6_of (G : FVec Ideal S4x512x8192 .bf16)
    (h : ∀ (t : Fin cfg0.N) (j : Fin 512) (r : Fin 1024),
      oblk6 m c t (ix3 0 j r) = G (ix3 ⟨t.val / 8, by have := lt_N t; omega⟩ j ⟨t.val % 8 * 1024 + r.val, by omega⟩)) :
    (dats m 0 c).arrAt 6 cfg0.N = G := by
  refine (dats m 0 c).arrAt_eq_of_covers 6 G covers6 fun t hf y => ?_
  have ht := lt_N t
  have hi : ((cfg0.win 6).blk t).view.emb y = (ix3 ⟨t.val / 8, by omega⟩ ⟨(y 1).val, (y 1).isLt⟩
      ⟨t.val % 8 * 1024 + (y 2).val, by have : (y 2).val < 1024 := (y 2).isLt; omega⟩ : S4x512x8192.Idx) := by
    blk_ext [idx6]
  have hx : (cfg0.win 6).xinj (cfg0.grid.coords t) y = (ix3 0 ⟨(y 1).val, (y 1).isLt⟩ ⟨(y 2).val, (y 2).isLt⟩ : S1x512x1024.Idx) := by
    blk_ext [idx6]
  rw [hi, hx, after6]
  exact (cast_eq _ _).trans (h t ⟨(y 1).val, (y 1).isLt⟩ ⟨(y 2).val, (y 2).isLt⟩)

/-- The array of the queries after the run. -/
theorem result6 : (dats m 0 c).arrAt 6 cfg0.N = qArr m c :=
  result6_of m c (qArr m c) fun t j r => oblk6_at m c t j r _ _ rfl rfl

/-- The array of the values. -/
def vArr : FVec Ideal S4x1024x8192 .bf16 := fun i =>
  colAt (arg0 m c) (arg1 m c) (arg2 m c) (arg3 m c) (arg4 m c) 1024 1024 (by norm_num) ⟨(i 0).val, (i 0).isLt⟩ ⟨(i 1).val, (i 1).isLt⟩ ⟨(i 2).val, (i 2).isLt⟩

/-- A point's block of it. -/
def oblk7 (t : Fin cfg0.N) : FVec Ideal S1x1024x1024 .bf16 := out0_7 (iblk m c 0 t) (iblk m c 1 t) (iblk m c 2 t) (iblk m c 3 t) (iblk m c 4 t)

/-- It is what the body leaves. -/
theorem after7 (t : Fin cfg0.N) : (dats m 0 c).after 7 t = oblk7 m c t := after0_7 m c t

/-- It at an index. -/
theorem oblk7_at (t : Fin cfg0.N) (j : Fin 1024) (r : Fin 1024) (b : Fin 4) (s : Fin 8192) (hb : b.val = t.val / 8) (hs : s.val = t.val % 8 * 1024 + r.val) :
    oblk7 m c t (ix3 0 j r) = vArr m c (ix3 b j s) := by
  refine (out7_at _ _ _ _ _ _).trans ?_
  show blkF _ _ _ _ ⟨512 + j.val, _⟩ r = projAt _ _ _ _ _ b s ⟨1024 + j.val, _⟩
  rw [f_eq m c t ⟨512 + j.val, by omega⟩ r b s hb hs]
  refine congrArg _ (Fin.ext ?_)
  simp only [colOf]
  split_ifs <;> omega

/-- Its blocks cover it. -/
theorem covers7 : win0_7.Covers := by decide +kernel

/-- It is any array each point's block agrees with. -/
theorem result7_of (G : FVec Ideal S4x1024x8192 .bf16)
    (h : ∀ (t : Fin cfg0.N) (j : Fin 1024) (r : Fin 1024),
      oblk7 m c t (ix3 0 j r) = G (ix3 ⟨t.val / 8, by have := lt_N t; omega⟩ j ⟨t.val % 8 * 1024 + r.val, by omega⟩)) :
    (dats m 0 c).arrAt 7 cfg0.N = G := by
  refine (dats m 0 c).arrAt_eq_of_covers 7 G covers7 fun t hf y => ?_
  have ht := lt_N t
  have hi : ((cfg0.win 7).blk t).view.emb y = (ix3 ⟨t.val / 8, by omega⟩ ⟨(y 1).val, (y 1).isLt⟩
      ⟨t.val % 8 * 1024 + (y 2).val, by have : (y 2).val < 1024 := (y 2).isLt; omega⟩ : S4x1024x8192.Idx) := by
    blk_ext [idx7]
  have hx : (cfg0.win 7).xinj (cfg0.grid.coords t) y = (ix3 0 ⟨(y 1).val, (y 1).isLt⟩ ⟨(y 2).val, (y 2).isLt⟩ : S1x1024x1024.Idx) := by
    blk_ext [idx7]
  rw [hi, hx, after7]
  exact (cast_eq _ _).trans (h t ⟨(y 1).val, (y 1).isLt⟩ ⟨(y 2).val, (y 2).isLt⟩)

/-- The array of the values after the run. -/
theorem result7 : (dats m 0 c).arrAt 7 cfg0.N = vArr m c :=
  result7_of m c (vArr m c) fun t j r => oblk7_at m c t j r _ _ rfl rfl

/-- The array of the output gates. -/
def oArr : FVec Ideal S4x1024x8192 .bf16 := fun i =>
  colAt (arg0 m c) (arg1 m c) (arg2 m c) (arg3 m c) (arg4 m c) 1024 2064 (by norm_num) ⟨(i 0).val, (i 0).isLt⟩ ⟨(i 1).val, (i 1).isLt⟩ ⟨(i 2).val, (i 2).isLt⟩

/-- A point's block of it. -/
def oblk8 (t : Fin cfg0.N) : FVec Ideal S1x1024x1024 .bf16 := out0_8 (iblk m c 0 t) (iblk m c 1 t) (iblk m c 2 t) (iblk m c 3 t) (iblk m c 4 t)

/-- It is what the body leaves. -/
theorem after8 (t : Fin cfg0.N) : (dats m 0 c).after 8 t = oblk8 m c t := after0_8 m c t

/-- It at an index. -/
theorem oblk8_at (t : Fin cfg0.N) (j : Fin 1024) (r : Fin 1024) (b : Fin 4) (s : Fin 8192) (hb : b.val = t.val / 8) (hs : s.val = t.val % 8 * 1024 + r.val) :
    oblk8 m c t (ix3 0 j r) = oArr m c (ix3 b j s) := by
  refine (out8_at _ _ _ _ _ _).trans ?_
  show blkF _ _ _ _ ⟨1536 + j.val, _⟩ r = projAt _ _ _ _ _ b s ⟨2064 + j.val, _⟩
  rw [f_eq m c t ⟨1536 + j.val, by omega⟩ r b s hb hs]
  refine congrArg _ (Fin.ext ?_)
  simp only [colOf]
  split_ifs <;> omega

/-- Its blocks cover it. -/
theorem covers8 : win0_8.Covers := by decide +kernel

/-- It is any array each point's block agrees with. -/
theorem result8_of (G : FVec Ideal S4x1024x8192 .bf16)
    (h : ∀ (t : Fin cfg0.N) (j : Fin 1024) (r : Fin 1024),
      oblk8 m c t (ix3 0 j r) = G (ix3 ⟨t.val / 8, by have := lt_N t; omega⟩ j ⟨t.val % 8 * 1024 + r.val, by omega⟩)) :
    (dats m 0 c).arrAt 8 cfg0.N = G := by
  refine (dats m 0 c).arrAt_eq_of_covers 8 G covers8 fun t hf y => ?_
  have ht := lt_N t
  have hi : ((cfg0.win 8).blk t).view.emb y = (ix3 ⟨t.val / 8, by omega⟩ ⟨(y 1).val, (y 1).isLt⟩
      ⟨t.val % 8 * 1024 + (y 2).val, by have : (y 2).val < 1024 := (y 2).isLt; omega⟩ : S4x1024x8192.Idx) := by
    blk_ext [idx8]
  have hx : (cfg0.win 8).xinj (cfg0.grid.coords t) y = (ix3 0 ⟨(y 1).val, (y 1).isLt⟩ ⟨(y 2).val, (y 2).isLt⟩ : S1x1024x1024.Idx) := by
    blk_ext [idx8]
  rw [hi, hx, after8]
  exact (cast_eq _ _).trans (h t ⟨(y 1).val, (y 1).isLt⟩ ⟨(y 2).val, (y 2).isLt⟩)

/-- The array of the output gates after the run. -/
theorem result8 : (dats m 0 c).arrAt 8 cfg0.N = oArr m c :=
  result8_of m c (oArr m c) fun t j r => oblk8_at m c t j r _ _ rfl rfl

/-- The array of the gates. -/
def gArr : FVec Ideal S4x16x8192 .f32 := fun i =>
  colAt (arg0 m c) (arg1 m c) (arg2 m c) (arg3 m c) (arg4 m c) 16 2048 (by norm_num) ⟨(i 0).val, (i 0).isLt⟩ ⟨(i 1).val, (i 1).isLt⟩ ⟨(i 2).val, (i 2).isLt⟩

/-- A point's block of it. -/
def oblk9 (t : Fin cfg0.N) : FVec Ideal S1x16x1024 .f32 := out0_9 (iblk m c 0 t) (iblk m c 1 t) (iblk m c 2 t) (iblk m c 3 t) (iblk m c 4 t)

/-- It is what the body leaves. -/
theorem after9 (t : Fin cfg0.N) : (dats m 0 c).after 9 t = oblk9 m c t := after0_9 m c t

/-- It at an index. -/
theorem oblk9_at (t : Fin cfg0.N) (j : Fin 16) (r : Fin 1024) (b : Fin 4) (s : Fin 8192) (hb : b.val = t.val / 8) (hs : s.val = t.val % 8 * 1024 + r.val) :
    oblk9 m c t (ix3 0 j r) = gArr m c (ix3 b j s) := by
  refine (out9_at _ _ _ _ _ _).trans ?_
  show blkF _ _ _ _ ⟨2560 + j.val, _⟩ r = projAt _ _ _ _ _ b s ⟨2048 + j.val, _⟩
  rw [f_eq m c t ⟨2560 + j.val, by omega⟩ r b s hb hs]
  refine congrArg _ (Fin.ext ?_)
  simp only [colOf]
  split_ifs <;> omega

/-- Its blocks cover it. -/
theorem covers9 : win0_9.Covers := by decide +kernel

/-- It is any array each point's block agrees with. -/
theorem result9_of (G : FVec Ideal S4x16x8192 .f32)
    (h : ∀ (t : Fin cfg0.N) (j : Fin 16) (r : Fin 1024),
      oblk9 m c t (ix3 0 j r) = G (ix3 ⟨t.val / 8, by have := lt_N t; omega⟩ j ⟨t.val % 8 * 1024 + r.val, by omega⟩)) :
    (dats m 0 c).arrAt 9 cfg0.N = G := by
  refine (dats m 0 c).arrAt_eq_of_covers 9 G covers9 fun t hf y => ?_
  have ht := lt_N t
  have hi : ((cfg0.win 9).blk t).view.emb y = (ix3 ⟨t.val / 8, by omega⟩ ⟨(y 1).val, (y 1).isLt⟩
      ⟨t.val % 8 * 1024 + (y 2).val, by have : (y 2).val < 1024 := (y 2).isLt; omega⟩ : S4x16x8192.Idx) := by
    blk_ext [idx9]
  have hx : (cfg0.win 9).xinj (cfg0.grid.coords t) y = (ix3 0 ⟨(y 1).val, (y 1).isLt⟩ ⟨(y 2).val, (y 2).isLt⟩ : S1x16x1024.Idx) := by
    blk_ext [idx9]
  rw [hi, hx, after9]
  exact (cast_eq _ _).trans (h t ⟨(y 1).val, (y 1).isLt⟩ ⟨(y 2).val, (y 2).isLt⟩)

/-- The array of the gates after the run. -/
theorem result9 : (dats m 0 c).arrAt 9 cfg0.N = gArr m c :=
  result9_of m c (gArr m c) fun t j r => oblk9_at m c t j r _ _ rfl rfl

end Cert.Kernel3Ideal.In

end
-- ==== Proof.InRef.lean ====
module

public import proofs.«01_k».proof.Proof.Gen.Reference3Ideal.Run
public import proofs.«01_k».proof.Proof.InSpec

@[expose] public section

set_option maxRecDepth 16384

noncomputable section

namespace Cert.Reference3Ideal.In

open Idealize.ShloMosaic Idealize.ShloMosaic.TcCoe
open Cert.Reference3Ideal.Gen
open Cert.PostSpec Cert.InSpec

/-- The word of the number 1. -/
theorem word_one : Ideal.ofBits FTy.f32 0x3F800000#32 = 1 := by
  simp [Ideal.ofBits, Ideal.ieee, -EReal.coe_mul]; norm_num

/-- A modulation vector over all positions. -/
def modV (v : FVec Ideal S4x1x1024 .f32) : FVec Ideal S4x8192x1024 .f32 :=
  broadcastInDim S4x8192x1024 ![0, 1, 2] bcast_S4x1x1024_S4x8192x1024_0_1_2 v

/-- A vector per batch entry, with an axis of positions. -/
def axV (v : FVec Ideal S4x1024 .f32) : FVec Ideal S4x1x1024 .f32 := broadcastInDim S4x1x1024 ![0, 2] bcast_S4x1024_S4x1x1024_0_2 v

/-- A gain over all positions. -/
def gainV (g : FVec Ideal S1024 .f32) : FVec Ideal S4x8192x1024 .f32 :=
  broadcastInDim S4x8192x1024 ![0, 1, 2] bcast_S1x1x1024_S4x8192x1024_0_1_2 (broadcastInDim S1x1x1024 ![2] bcast_S1024_S1x1x1024_2 g)

/-- The sums of squares. -/
def sqV (y : FVec Ideal S4x8192x1024 .f32) : FVec Ideal S4x8192 .f32 :=
  Host.reduceAdd (mulf y y) (constant S_ .f32 0x00000000#32) reducesTo_S4x8192x1024_S4x8192_d2 h_S_

/-- The normalised rows, from the sums of squares. -/
def nrmV' (y : FVec Ideal S4x8192x1024 .f32) (s : FVec Ideal S4x8192 .f32) (g : FVec Ideal S1024 .f32) : FVec Ideal S4x8192x1024 .f32 :=
  mulf (mulf y (broadcastInDim S4x8192x1024 ![0, 1, 2] bcast_S4x8192x1_S4x8192x1024_0_1_2 (Host.rsqrt (addf (Host.divf
    (broadcastInDim S4x8192x1 ![0, 1] bcast_S4x8192_S4x8192x1_0_1 s)
    (broadcastInDim S4x8192x1 ![] bcast_S_S4x8192x1 (constant S_ .f32 0x44800000#32))) (broadcastInDim S4x8192x1 ![] bcast_S_S4x8192x1 (constant S_ .f32 0x358637BD#32))))))
    (gainV g)

/-- The normalised rows. -/
def nrmV (y : FVec Ideal S4x8192x1024 .f32) (g : FVec Ideal S1024 .f32) : FVec Ideal S4x8192x1024 .f32 := nrmV' y (sqV y) g

/-- Rows normalised, scaled and shifted. -/
def hidV (x : FVec Ideal S4x8192x1024 .f32) (g : FVec Ideal S1024 .f32) (sc sh : FVec Ideal S4x1024 .f32) : FVec Ideal S4x8192x1024 .f32 :=
  addf (mulf (nrmV x g) (modV (addf (broadcastInDim S4x1x1024 ![] bcast_S_S4x1x1024 (constant S_ .f32 0x3F800000#32)) (axV sc)))) (modV (axV sh))

/-- The input of the projections times their matrix. -/
def prodV (h : FVec Ideal S4x8192x1024 .f32) (w : FVec Ideal S1024x3088 .f32) : FVec Ideal S4x8192x3088 .f32 :=
  Host.dotGeneral dot_S4x8192x1024_S1024x3088_S4x8192x3088_2_0_01_1_n_n none h w

/-- The keys, scaled, by rows. -/
def kV (p : FVec Ideal S4x8192x3088 .f32) : FVec Ideal S32768x512 .bf16 :=
  truncf .bf16 (shapeCast S32768x512 (mulf (extractStridedSlice S4x8192x512 ![0, 0, 512] p slices_S4x8192x3088_S4x8192x512_0_0_512)
    (broadcastInDim S4x8192x512 ![] bcast_S_S4x8192x512 (constant S_ .f32 0x3E000000#32))) shapeCasts_S4x8192x512_S32768x512) bitsLt_bf16_f32

/-- The queries, transposed, -/
def qV (p : FVec Ideal S4x8192x3088 .f32) : FVec Ideal S4x512x8192 .bf16 :=
  truncf .bf16 (transpose S4x512x8192 [0, 2, 1] (extractStridedSlice S4x8192x512 ![0, 0, 0] p slices_S4x8192x3088_S4x8192x512_0_0_0)
    transposes_S4x8192x512_S4x512x8192_0_2_1) bitsLt_bf16_f32

/-- the values, -/
def vV (p : FVec Ideal S4x8192x3088 .f32) : FVec Ideal S4x1024x8192 .bf16 :=
  truncf .bf16 (transpose S4x1024x8192 [0, 2, 1] (extractStridedSlice S4x8192x1024 ![0, 0, 1024] p slices_S4x8192x3088_S4x8192x1024_0_0_1024)
    transposes_S4x8192x1024_S4x1024x8192_0_2_1) bitsLt_bf16_f32

/-- the output gates, -/
def oV (p : FVec Ideal S4x8192x3088 .f32) : FVec Ideal S4x1024x8192 .bf16 :=
  truncf .bf16 (transpose S4x1024x8192 [0, 2, 1] (extractStridedSlice S4x8192x1024 ![0, 0, 2064] p slices_S4x8192x3088_S4x8192x1024_0_0_2064)
    transposes_S4x8192x1024_S4x1024x8192_0_2_1) bitsLt_bf16_f32

/-- and the gates of the recurrence. -/
def gV (p : FVec Ideal S4x8192x3088 .f32) : FVec Ideal S4x16x8192 .f32 :=
  transpose S4x16x8192 [0, 2, 1] (concatenate S4x8192x16 2
    [⟨S4x8192x8, (extractStridedSlice S4x8192x8 ![0, 0, 2048] p slices_S4x8192x3088_S4x8192x8_0_0_2048 : FVec Ideal S4x8192x8 .f32)⟩,
     ⟨S4x8192x8, (extractStridedSlice S4x8192x8 ![0, 0, 2056] p slices_S4x8192x3088_S4x8192x8_0_0_2056 : FVec Ideal S4x8192x8 .f32)⟩]
    concatenates_S4x8192x8_S4x8192x8_S4x8192x16_d2) transposes_S4x8192x16_S4x16x8192_0_2_1

/-- A modulation vector over all positions, at an index. -/
theorem mod_at (v : FVec Ideal S4x1x1024 .f32) (b : Fin 4) (s : Fin 8192) (k : Fin 1024) : modV v (ix3 b s k) = v (ix3 b 0 k) := by
  unfold modV
  pointwise

/-- A vector with an axis of positions, at an index. -/
theorem ax_at (v : FVec Ideal S4x1024 .f32) (b : Fin 4) (z : Fin 1) (k : Fin 1024) : axV v (ix3 b z k) = v (ix2 b k) := by
  unfold axV
  pointwise

/-- A gain at an index. -/
theorem gain_at (g : FVec Ideal S1024 .f32) (b : Fin 4) (s : Fin 8192) (k : Fin 1024) : gainV g (ix3 b s k) = g (ix1 k) := by
  unfold gainV
  pointwise

/-- A sum of squares at an index. -/
theorem sq_at (y : FVec Ideal S4x8192x1024 .f32) (b : Fin 4) (s : Fin 8192) : sqV y (ix2 b s) = ∑ k, y (ix3 b s k) * y (ix3 b s k) := by
  unfold sqV
  pointwise

/-- The normalised rows at an index, from the sums of squares. -/
theorem nrm'_at (y : FVec Ideal S4x8192x1024 .f32) (q : FVec Ideal S4x8192 .f32) (g : FVec Ideal S1024 .f32) (b : Fin 4) (s : Fin 8192) (k : Fin 1024) :
    nrmV' y q g (ix3 b s k) = y (ix3 b s k) * Ideal.rsqrt (Ideal.div (q (ix2 b s)) (Ideal.ofBits .f32 0x44800000#32) + Ideal.ofBits .f32 0x358637BD#32) * g (ix1 k) := by
  unfold nrmV'
  rw [← gain_at g b s k]
  generalize gainV g = G
  pointwise

/-- The normalised rows at an index. -/
theorem nrm_at (y : FVec Ideal S4x8192x1024 .f32) (g : FVec Ideal S1024 .f32) (b : Fin 4) (s : Fin 8192) (k : Fin 1024) :
    nrmV y g (ix3 b s k) = rowNorm (fun k => y (ix3 b s k)) (fun k => g (ix1 k)) k := by
  unfold nrmV rowNorm
  rw [nrm'_at, sq_at]

/-- Modulated rows at an index. -/
theorem hid_at (x : FVec Ideal S4x8192x1024 .f32) (g : FVec Ideal S1024 .f32) (sc sh : FVec Ideal S4x1024 .f32) (b : Fin 4) (s : Fin 8192) (k : Fin 1024) :
    hidV x g sc sh (ix3 b s k) = rowMod (fun k => x (ix3 b s k)) (fun k => g (ix1 k)) (fun k => sc (ix2 b k)) (fun k => sh (ix2 b k)) k := by
  unfold hidV rowMod
  have e : (addf (broadcastInDim S4x1x1024 ![] bcast_S_S4x1x1024 (constant S_ .f32 0x3F800000#32)) (axV sc) : FVec Ideal S4x1x1024 .f32) (ix3 b 0 k) = 1 + sc (ix2 b k) := by
    rw [← ax_at sc b 0 k, ← word_one]
    generalize axV sc = a
    pointwise
  generalize (addf (broadcastInDim S4x1x1024 ![] bcast_S_S4x1x1024 (constant S_ .f32 0x3F800000#32)) (axV sc) : FVec Ideal S4x1x1024 .f32) = a at *
  refine Eq.trans (b := nrmV x g (ix3 b s k) * modV a (ix3 b s k) + modV (axV sh) (ix3 b s k)) rfl ?_
  rw [mod_at, mod_at, ax_at, nrm_at, e]

/-- The projections at an index. -/
theorem prod_at (h : FVec Ideal S4x8192x1024 .f32) (w : FVec Ideal S1024x3088 .f32) (b : Fin 4) (s : Fin 8192) (c : Fin 3088) :
    prodV h w (ix3 b s c) = rowMul (fun k => h (ix3 b s k)) (fun k c => w (ix2 k c)) c := by
  unfold prodV rowMul
  pointwise

/-- The keys at an index. -/
theorem kV_at (p : FVec Ideal S4x8192x3088 .f32) (R : Fin 32768) (j : Fin 512) :
    kV p (ix2 R j) = p (ix3 ⟨R.val / 8192, by omega⟩ ⟨R.val % 8192, by omega⟩ ⟨512 + j.val, by omega⟩) * Ideal.ofBits .f32 0x3E000000#32 := by
  unfold kV
  pointwise

/-- The queries at an index. -/
theorem qV_at (p : FVec Ideal S4x8192x3088 .f32) (b : Fin 4) (j : Fin 512) (s : Fin 8192) : qV p (ix3 b j s) = p (ix3 b s ⟨0 + j.val, by omega⟩) := by
  unfold qV
  pointwise

/-- The values at an index. -/
theorem vV_at (p : FVec Ideal S4x8192x3088 .f32) (b : Fin 4) (j : Fin 1024) (s : Fin 8192) : vV p (ix3 b j s) = p (ix3 b s ⟨1024 + j.val, by omega⟩) := by
  unfold vV
  pointwise

/-- The output gates at an index. -/
theorem oV_at (p : FVec Ideal S4x8192x3088 .f32) (b : Fin 4) (j : Fin 1024) (s : Fin 8192) : oV p (ix3 b j s) = p (ix3 b s ⟨2064 + j.val, by omega⟩) := by
  unfold oV
  pointwise

/-- The gates of the recurrence at an index. -/
theorem gV_at (p : FVec Ideal S4x8192x3088 .f32) (b : Fin 4) (j : Fin 16) (s : Fin 8192) : gV p (ix3 b j s) = p (ix3 b s ⟨2048 + j.val, by omega⟩) := by
  unfold gV
  pointwise
  split
  · pointwise
  · pointwise
    congr 1
    refine congrArg _ (Fin.ext ?_)
    simp only
    omega

section Values

variable (x : FVec Ideal S4x8192x1024 .f32) (g : FVec Ideal S1024 .f32) (sh sc : FVec Ideal S4x1024 .f32) (w : FVec Ideal S1024x3088 .f32)

/-- All projections of the layer's input. -/
def allV : FVec Ideal S4x8192x3088 .f32 := prodV (hidV x g sc sh) w

/-- They at an index. -/
theorem all_at (b : Fin 4) (s : Fin 8192) (c : Fin 3088) : allV x g sh sc w (ix3 b s c) = projAt x g sh sc w b s c := by
  unfold allV projAt
  refine (prod_at _ _ b s c).trans ?_
  exact congrArg (fun h => rowMul h (fun k c => w (ix2 k c)) c) (funext fun k => hid_at x g sc sh b s k)

/-- The keys are those of the layer, -/
theorem k_eq : kV (allV x g sh sc w) = fun i => keyAt x g sh sc w ⟨(i 0).val, (i 0).isLt⟩ ⟨(i 1).val, (i 1).isLt⟩ := by
  funext i
  have hi : i = ix2 ⟨(i 0).val, (i 0).isLt⟩ ⟨(i 1).val, (i 1).isLt⟩ := by funext a; fin_cases a <;> rfl
  refine (congrArg _ hi).trans ((kV_at _ _ _).trans ?_)
  exact congrArg (· * _) (all_at x g sh sc w _ _ _)
/-- so are the queries, -/
theorem q_eq : qV (allV x g sh sc w)
    = fun i => colAt x g sh sc w 512 0 (by norm_num) ⟨(i 0).val, (i 0).isLt⟩ ⟨(i 1).val, (i 1).isLt⟩ ⟨(i 2).val, (i 2).isLt⟩ := by
  funext i
  have hi : i = ix3 ⟨(i 0).val, (i 0).isLt⟩ ⟨(i 1).val, (i 1).isLt⟩ ⟨(i 2).val, (i 2).isLt⟩ := by funext a; fin_cases a <;> rfl
  refine (congrArg _ hi).trans ((qV_at _ _ _ _).trans ?_)
  exact all_at x g sh sc w _ _ _
/-- the values, -/
theorem v_eq : vV (allV x g sh sc w)
    = fun i => colAt x g sh sc w 1024 1024 (by norm_num) ⟨(i 0).val, (i 0).isLt⟩ ⟨(i 1).val, (i 1).isLt⟩ ⟨(i 2).val, (i 2).isLt⟩ := by
  funext i
  have hi : i = ix3 ⟨(i 0).val, (i 0).isLt⟩ ⟨(i 1).val, (i 1).isLt⟩ ⟨(i 2).val, (i 2).isLt⟩ := by funext a; fin_cases a <;> rfl
  refine (congrArg _ hi).trans ((vV_at _ _ _ _).trans ?_)
  exact all_at x g sh sc w _ _ _
/-- the output gates, -/
theorem o_eq : oV (allV x g sh sc w)
    = fun i => colAt x g sh sc w 1024 2064 (by norm_num) ⟨(i 0).val, (i 0).isLt⟩ ⟨(i 1).val, (i 1).isLt⟩ ⟨(i 2).val, (i 2).isLt⟩ := by
  funext i
  have hi : i = ix3 ⟨(i 0).val, (i 0).isLt⟩ ⟨(i 1).val, (i 1).isLt⟩ ⟨(i 2).val, (i 2).isLt⟩ := by funext a; fin_cases a <;> rfl
  refine (congrArg _ hi).trans ((oV_at _ _ _ _).trans ?_)
  exact all_at x g sh sc w _ _ _
/-- and the gates of the recurrence. -/
theorem g_eq : gV (allV x g sh sc w)
    = fun i => colAt x g sh sc w 16 2048 (by norm_num) ⟨(i 0).val, (i 0).isLt⟩ ⟨(i 1).val, (i 1).isLt⟩ ⟨(i 2).val, (i 2).isLt⟩ := by
  funext i
  have hi : i = ix3 ⟨(i 0).val, (i 0).isLt⟩ ⟨(i 1).val, (i 1).isLt⟩ ⟨(i 2).val, (i 2).isLt⟩ := by funext a; fin_cases a <;> rfl
  refine (congrArg _ hi).trans ((gV_at _ _ _ _).trans ?_)
  exact all_at x g sh sc w _ _ _

end Values

variable (m : (ℓ : Loc nD τ sig) → Buf (Elt Ideal) ℓ) (ρ : Dev nD → PrngReg)

/-- The projections of the arguments. -/
def argV (c : Dev nD) : FVec Ideal S4x8192x3088 .f32 :=
  allV (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The reference ends with the five arrays in its results, and its arguments are unchanged. -/
theorem run_arr : θ_run defs (onTc (τ := τ) (main (F := Ideal))) ⟨m, fun _ => 0, ρ⟩ fun r => ∀ c : Dev nD,
    r.2.mem ((c.tc : Thread nD τ).loc main_v32) = kV (argV m c)
    ∧ r.2.mem ((c.tc : Thread nD τ).loc main_v34) = qV (argV m c)
    ∧ r.2.mem ((c.tc : Thread nD τ).loc main_v36) = vV (argV m c)
    ∧ r.2.mem ((c.tc : Thread nD τ).loc main_v38) = oV (argV m c)
    ∧ r.2.mem ((c.tc : Thread nD τ).loc main_v39) = gV (argV m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  unfold kV qV vV oV gV argV allV prodV hidV nrmV nrmV' sqV gainV modV axV
  exact Value.run m ρ

end Cert.Reference3Ideal.In

end
-- ==== Proof.lean ====
module

public import proofs.«01_k».proof.Proof.Gen.Kernel2
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal.Value
public import proofs.«01_k».proof.Proof.Gen.Reference3Ideal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Run
public import proofs.«01_k».proof.Proof.Final
public import proofs.«01_k».proof.Proof.RefVal
public import proofs.«01_k».proof.Proof.PostTile
public import proofs.«01_k».proof.Proof.PostRef
public import proofs.«01_k».proof.Proof.InTile
public import proofs.«01_k».proof.Proof.InRef
public import Idealize.ShloMosaic.Adequacy
public import Idealize.ShloMosaic.Init
public import Idealize.ShloMosaic.Lib.Quiescent

@[expose] public section

noncomputable section

namespace Cert.Proof

open Idealize.ShloMosaic Idealize.SL.Sem

/-- The region bodies the two programs declare at a label are the same program. -/
theorem defs₀_eq : @Cert.Kernel.defs₀ Bits _ _ = @Cert.KernelIdeal.defs₀ Bits _ _ := by
  unfold Cert.Kernel.defs₀ Cert.KernelIdeal.defs₀
  refine congrArg Defs.onTc ?_
  funext l a
  match l, a with
  | 0, (t, s) => rfl

/-- The two programs declare the same labels with the same bodies. -/
theorem defs_eq : @Cert.Kernel.defs Bits _ _ = @Cert.KernelIdeal.defs Bits _ _ := by
  unfold Cert.Kernel.defs Cert.KernelIdeal.defs
  exact congrArg _ defs₀_eq

/-- The kernel at its stored floats: the idealization's text is its text. -/
theorem frame_kernel : Cert.quiescent_Kernel := fun m ρ _ =>
  Eq.mpr (congrArg (fun d => θ_run d (onTc (τ := Cert.KernelIdeal.τ) (Cert.KernelIdeal.main (F := Bits))) _ _) defs_eq)
    (Cert.KernelIdeal.Attn.frame (F := Bits) m ρ)

/-- The same over the extended reals. -/
theorem frame_ideal : Cert.quiescent_KernelIdeal := fun m ρ _ => Cert.KernelIdeal.Attn.frame (F := Ideal) m ρ

/-- The reference runs on the host alone: it ends, its arguments stay, and it has no semaphore. -/
theorem frame_reference : Cert.quiescent_ReferenceIdeal := fun m ρ _ =>
  (θ_run Cert.ReferenceIdeal.defs _ _).mono
    (fun r h => ⟨fun c => (h c).2, sem_eq_zero_of_no_sems rfl r.2⟩) (Cert.ReferenceIdeal.Value.run (F := Ideal) m ρ)

/-- The reference's result, from the same arguments, is the same attention. -/
theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : Cert.ReferenceIdeal.Attn.arg0 m' c = Cert.KernelIdeal.Attn.arg0 m c) (e1 : Cert.ReferenceIdeal.Attn.arg1 m' c = Cert.KernelIdeal.Attn.arg1 m c)
    (e2 : Cert.ReferenceIdeal.Attn.arg2 m' c = Cert.KernelIdeal.Attn.arg2 m c) (e3 : Cert.ReferenceIdeal.Attn.arg3 m' c = Cert.KernelIdeal.Attn.arg3 m c)
    (e4 : Cert.ReferenceIdeal.Attn.arg4 m' c = Cert.KernelIdeal.Attn.arg4 m c)
    (h0 : ∀ i, Cert.KernelIdeal.Attn.arg0 m c i = ((Cert.KernelIdeal.Attn.arg0 m c i).toReal : EReal))
    (h1 : ∀ i, Cert.KernelIdeal.Attn.arg1 m c i = ((Cert.KernelIdeal.Attn.arg1 m c i).toReal : EReal))
    (h2 : ∀ i, Cert.KernelIdeal.Attn.arg2 m c i = ((Cert.KernelIdeal.Attn.arg2 m c i).toReal : EReal))
    (h3 : ∀ i, Cert.KernelIdeal.Attn.arg3 m c i = ((Cert.KernelIdeal.Attn.arg3 m c i).toReal : EReal)) :
    (Cert.ReferenceIdeal.Value.res_main_v30 m' c : FVec Ideal Cert.KernelIdeal.S4x1024x8192 .bf16) = Cert.KernelIdeal.Attn.attnArr m c := by
  rw [← e0] at h0
  rw [← e1] at h1
  rw [← e2] at h2
  rw [← e3] at h3
  funext i
  have hi : i = ix3 ⟨(i 0).val, (i 0).isLt⟩ ⟨(i 1).val, (i 1).isLt⟩ ⟨(i 2).val, (i 2).isLt⟩ := by
    funext a; fin_cases a <;> rfl
  refine (congrArg (Cert.ReferenceIdeal.Value.res_main_v30 m' c : FVec Ideal Cert.KernelIdeal.S4x1024x8192 .bf16) hi).trans ?_
  refine (Cert.ReferenceIdeal.Attn.ref_at m' c h0 h1 h2 h3 _ _ _).trans ?_
  unfold Cert.KernelIdeal.Attn.attnArr
  rw [e0, e1, e2, e3, e4]
  rfl

/-- Both programs end with the attention of the arguments. -/
theorem algebraic : Cert.algebraic_KernelIdeal_ReferenceIdeal_pre_finite := fun m g m' g' hpre hargs =>
  have fin := fun c => Cert.KernelIdeal.Attn.finite_args _ _ _ _ _ (fun a => a.elim0) (congrFun (hpre c) _)
  ⟨fun c => Cert.KernelIdeal.Attn.attnArr m c,
    (θ_run _ _ _).mono (fun _ h c => ⟨((h.1 c).1 3).trans (Cert.KernelIdeal.Attn.result m c (fin c).1 (fin c).2.1 (fin c).2.2.1 (fin c).2.2.2), h.2.1 c⟩)
      (θ_run_and (Cert.KernelIdeal.Attn.run_main (F := Ideal) m g) (Cert.KernelIdeal.Attn.frame (F := Ideal) m g)),
    (θ_run _ _ _).mono (fun _ h c => ⟨(h c).1.trans (ref_result m m' c (hargs c).1 (hargs c).2.1 (hargs c).2.2.1 (hargs c).2.2.2.1 (hargs c).2.2.2.2
      (fin c).1 (fin c).2.1 (fin c).2.2.1 (fin c).2.2.2), (h c).2⟩)
      (Cert.ReferenceIdeal.Value.run (F := Ideal) m' g')⟩

/-- The region bodies of the second call's two programs are the same program. -/
theorem defs₀_eq2 : @Cert.Kernel2.defs₀ Bits _ _ = @Cert.Kernel2Ideal.defs₀ Bits _ _ := by
  unfold Cert.Kernel2.defs₀ Cert.Kernel2Ideal.defs₀
  refine congrArg Defs.onTc ?_
  funext l a
  match l, a with
  | 0, (t, s) => rfl

/-- They declare the same labels with the same bodies. -/
theorem defs_eq2 : @Cert.Kernel2.defs Bits _ _ = @Cert.Kernel2Ideal.defs Bits _ _ := by
  unfold Cert.Kernel2.defs Cert.Kernel2Ideal.defs
  exact congrArg _ defs₀_eq2

/-- The second call at its stored floats. -/
theorem frame_kernel2 : Cert.quiescent_Kernel2 := fun m ρ _ =>
  Eq.mpr (congrArg (fun d => θ_run d (onTc (τ := Cert.Kernel2Ideal.τ) (Cert.Kernel2Ideal.main (F := Bits))) _ _) defs_eq2)
    (Cert.Kernel2Ideal.Gen.frame (F := Bits) m ρ)

/-- The same over the extended reals. -/
theorem frame_ideal2 : Cert.quiescent_Kernel2Ideal := fun m ρ _ => Cert.Kernel2Ideal.Gen.frame (F := Ideal) m ρ

/-- The second call's reference runs on the host alone. -/
theorem frame_reference2 : Cert.quiescent_Reference2Ideal := fun m ρ _ =>
  (θ_run Cert.Reference2Ideal.defs _ _).mono
    (fun r h => ⟨fun c => (h c).2, sem_eq_zero_of_no_sems rfl r.2⟩) (Cert.Reference2Ideal.Value.run (F := Ideal) m ρ)

/-- The second reference's result, from the same arguments, is the same rows. -/
theorem ref_result2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (e0 : Cert.Reference2Ideal.Post.arg0 m' c = Cert.Kernel2Ideal.Post.arg0 m c) (e1 : Cert.Reference2Ideal.Post.arg1 m' c = Cert.Kernel2Ideal.Post.arg1 m c)
    (e2 : Cert.Reference2Ideal.Post.arg2 m' c = Cert.Kernel2Ideal.Post.arg2 m c) (e3 : Cert.Reference2Ideal.Post.arg3 m' c = Cert.Kernel2Ideal.Post.arg3 m c)
    (e4 : Cert.Reference2Ideal.Post.arg4 m' c = Cert.Kernel2Ideal.Post.arg4 m c) (e5 : Cert.Reference2Ideal.Post.arg5 m' c = Cert.Kernel2Ideal.Post.arg5 m c)
    (e6 : Cert.Reference2Ideal.Post.arg6 m' c = Cert.Kernel2Ideal.Post.arg6 m c) :
    (Cert.Reference2Ideal.Value.res_main_v76 m' c : FVec Ideal Cert.Kernel2Ideal.S32768x1024 .f32) = Cert.Kernel2Ideal.Post.postArr m c := by
  funext i
  have hi : i = ix2 ⟨(i 0).val, (i 0).isLt⟩ ⟨(i 1).val, (i 1).isLt⟩ := by
    funext a; fin_cases a <;> rfl
  refine (congrArg (Cert.Reference2Ideal.Value.res_main_v76 m' c : FVec Ideal Cert.Kernel2Ideal.S32768x1024 .f32) hi).trans ?_
  refine (Cert.Reference2Ideal.Post.ref_at m' c _ _).trans ?_
  unfold Cert.Kernel2Ideal.Post.postArr
  rw [e0, e1, e2, e3, e4, e5, e6]
  rfl

/-- Both programs of the second call end with the same rows. -/
theorem algebraic2 : Cert.algebraic_Kernel2Ideal_Reference2Ideal := fun m g m' g' _ hargs =>
  ⟨fun c => Cert.Kernel2Ideal.Post.postArr m c,
    (θ_run _ _ _).mono (fun _ h c => ⟨(h c).1.trans (Cert.Kernel2Ideal.Post.result m c), (h c).2⟩)
      (Cert.Kernel2Ideal.Value.run_blocks (F := Ideal) m g),
    (θ_run _ _ _).mono (fun _ h c => ⟨(h c).1.trans (ref_result2 m m' c (hargs c).1 (hargs c).2.1 (hargs c).2.2.1 (hargs c).2.2.2.1 (hargs c).2.2.2.2.1
      (hargs c).2.2.2.2.2.1 (hargs c).2.2.2.2.2.2), (h c).2⟩)
      (Cert.Reference2Ideal.Value.run (F := Ideal) m' g')⟩

/-- The region bodies of the third call's two programs are the same program. -/
theorem defs₀_eq3 : @Cert.Kernel3.defs₀ Bits _ _ = @Cert.Kernel3Ideal.defs₀ Bits _ _ := by
  unfold Cert.Kernel3.defs₀ Cert.Kernel3Ideal.defs₀
  refine congrArg Defs.onTc ?_
  funext l a
  match l, a with
  | 0, (t, s) => rfl

/-- They declare the same labels with the same bodies. -/
theorem defs_eq3 : @Cert.Kernel3.defs Bits _ _ = @Cert.Kernel3Ideal.defs Bits _ _ := by
  unfold Cert.Kernel3.defs Cert.Kernel3Ideal.defs
  exact congrArg _ defs₀_eq3

/-- The third call at its stored floats. -/
theorem frame_kernel3 : Cert.quiescent_Kernel3 := fun m ρ _ =>
  Eq.mpr (congrArg (fun d => θ_run d (onTc (τ := Cert.Kernel3Ideal.τ) (Cert.Kernel3Ideal.main (F := Bits))) _ _) defs_eq3)
    (Cert.Kernel3Ideal.Gen.frame (F := Bits) m ρ)

/-- The same over the extended reals. -/
theorem frame_ideal3 : Cert.quiescent_Kernel3Ideal := fun m ρ _ => Cert.Kernel3Ideal.Gen.frame (F := Ideal) m ρ

/-- The third call's reference runs on the host alone. -/
theorem frame_reference3 : Cert.quiescent_Reference3Ideal := fun m ρ _ =>
  (θ_run Cert.Reference3Ideal.defs _ _).mono
    (fun r h => ⟨fun c => (h c).2.2.2.2.2, sem_eq_zero_of_no_sems rfl r.2⟩) (Cert.Reference3Ideal.Value.run (F := Ideal) m ρ)

section Third

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ) (c : Dev Cert.Kernel3Ideal.nD)

/-- The third reference's projections, from the same arguments, are those of the kernel's arguments. -/
theorem arg_eq3
    (e0 : m' ((c.tc : Thread Cert.Reference3Ideal.nD Cert.Reference3Ideal.τ).loc Cert.Reference3Ideal.main_arg0) = Cert.Kernel3Ideal.In.arg0 m c)
    (e1 : m' ((c.tc : Thread Cert.Reference3Ideal.nD Cert.Reference3Ideal.τ).loc Cert.Reference3Ideal.main_arg1) = Cert.Kernel3Ideal.In.arg1 m c)
    (e2 : m' ((c.tc : Thread Cert.Reference3Ideal.nD Cert.Reference3Ideal.τ).loc Cert.Reference3Ideal.main_arg2) = Cert.Kernel3Ideal.In.arg2 m c)
    (e3 : m' ((c.tc : Thread Cert.Reference3Ideal.nD Cert.Reference3Ideal.τ).loc Cert.Reference3Ideal.main_arg3) = Cert.Kernel3Ideal.In.arg3 m c)
    (e4 : m' ((c.tc : Thread Cert.Reference3Ideal.nD Cert.Reference3Ideal.τ).loc Cert.Reference3Ideal.main_arg4) = Cert.Kernel3Ideal.In.arg4 m c) :
    Cert.Reference3Ideal.In.argV m' c = Cert.Reference3Ideal.In.allV (Cert.Kernel3Ideal.In.arg0 m c) (Cert.Kernel3Ideal.In.arg1 m c)
      (Cert.Kernel3Ideal.In.arg2 m c) (Cert.Kernel3Ideal.In.arg3 m c) (Cert.Kernel3Ideal.In.arg4 m c) := by
  unfold Cert.Reference3Ideal.In.argV
  rw [e0, e1, e2, e3, e4]

variable (e : Cert.Reference3Ideal.In.argV m' c = Cert.Reference3Ideal.In.allV (Cert.Kernel3Ideal.In.arg0 m c) (Cert.Kernel3Ideal.In.arg1 m c)
  (Cert.Kernel3Ideal.In.arg2 m c) (Cert.Kernel3Ideal.In.arg3 m c) (Cert.Kernel3Ideal.In.arg4 m c))
include e

/-- The keys agree, -/
theorem k_eq3 : (Cert.Reference3Ideal.In.kV (Cert.Reference3Ideal.In.argV m' c) : FVec Ideal Cert.Kernel3Ideal.S32768x512 .bf16) = Cert.Kernel3Ideal.In.keyArr m c := by
  rw [e]
  exact Cert.Reference3Ideal.In.k_eq _ _ _ _ _
/-- the queries, -/
theorem q_eq3 : (Cert.Reference3Ideal.In.qV (Cert.Reference3Ideal.In.argV m' c) : FVec Ideal Cert.Kernel3Ideal.S4x512x8192 .bf16) = Cert.Kernel3Ideal.In.qArr m c := by
  rw [e]
  exact Cert.Reference3Ideal.In.q_eq _ _ _ _ _
/-- the values, -/
theorem v_eq3 : (Cert.Reference3Ideal.In.vV (Cert.Reference3Ideal.In.argV m' c) : FVec Ideal Cert.Kernel3Ideal.S4x1024x8192 .bf16) = Cert.Kernel3Ideal.In.vArr m c := by
  rw [e]
  exact Cert.Reference3Ideal.In.v_eq _ _ _ _ _
/-- the output gates, -/
theorem o_eq3 : (Cert.Reference3Ideal.In.oV (Cert.Reference3Ideal.In.argV m' c) : FVec Ideal Cert.Kernel3Ideal.S4x1024x8192 .bf16) = Cert.Kernel3Ideal.In.oArr m c := by
  rw [e]
  exact Cert.Reference3Ideal.In.o_eq _ _ _ _ _
/-- and the gates of the recurrence. -/
theorem g_eq3 : (Cert.Reference3Ideal.In.gV (Cert.Reference3Ideal.In.argV m' c) : FVec Ideal Cert.Kernel3Ideal.S4x16x8192 .f32) = Cert.Kernel3Ideal.In.gArr m c := by
  rw [e]
  exact Cert.Reference3Ideal.In.g_eq _ _ _ _ _

end Third

/-- Both programs of the third call end with the same five arrays. -/
theorem algebraic3 : Cert.algebraic_Kernel3Ideal_Reference3Ideal := fun m g m' g' _ hargs =>
  have e := fun c => arg_eq3 m m' c (hargs c).1 (hargs c).2.1 (hargs c).2.2.1 (hargs c).2.2.2.1 (hargs c).2.2.2.2
  ⟨fun c => Cert.Kernel3Ideal.In.keyArr m c, fun c => Cert.Kernel3Ideal.In.qArr m c, fun c => Cert.Kernel3Ideal.In.vArr m c, fun c => Cert.Kernel3Ideal.In.oArr m c, fun c => Cert.Kernel3Ideal.In.gArr m c,
    (θ_run _ _ _).mono (fun _ h c => ⟨(h c).1.trans (Cert.Kernel3Ideal.In.result5 m c), (h c).2.1.trans (Cert.Kernel3Ideal.In.result6 m c),
      (h c).2.2.1.trans (Cert.Kernel3Ideal.In.result7 m c), (h c).2.2.2.1.trans (Cert.Kernel3Ideal.In.result8 m c),
      (h c).2.2.2.2.1.trans (Cert.Kernel3Ideal.In.result9 m c), (h c).2.2.2.2.2⟩)
      (Cert.Kernel3Ideal.Value.run_blocks (F := Ideal) m g),
    (θ_run _ _ _).mono (fun _ h c => ⟨(h c).1.trans (k_eq3 m m' c (e c)), (h c).2.1.trans (q_eq3 m m' c (e c)), (h c).2.2.1.trans (v_eq3 m m' c (e c)),
      (h c).2.2.2.1.trans (o_eq3 m m' c (e c)), (h c).2.2.2.2.1.trans (g_eq3 m m' c (e c)), (h c).2.2.2.2.2⟩)
      (Cert.Reference3Ideal.In.run_arr m' g')⟩

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite.Gen.facts,
    frame_kernel, frame_ideal, fun m ρ _ => frame_ideal m ρ trivial, frame_reference,
    fun m ρ _ => frame_reference m ρ trivial, frame_kernel2, frame_ideal2, frame_reference2,
    frame_kernel3, frame_ideal3, frame_reference3, trivial, algebraic, trivial, algebraic2, trivial, algebraic3⟩

end Cert.Proof

end
